-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_PotKernel (m : (ℓ : Loc Cert.PotKernel.nD Cert.PotKernel.τ Cert.PotKernel.sig) → Buf (Elt Bits) ℓ) : Prop :=
  True

def Pre_PotKernelIdeal (m : (ℓ : Loc Cert.PotKernelIdeal.nD Cert.PotKernelIdeal.τ Cert.PotKernelIdeal.sig) → Buf (Elt Ideal) ℓ) : Prop :=
  True

def Pre_PotReferenceIdeal (m : (ℓ : Loc Cert.PotReferenceIdeal.nD Cert.PotReferenceIdeal.τ Cert.PotReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_mem_finite [hPre_mem_finite : Cert.Pre_mem_finite.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3)) (m ((c.tc : Thread Cert.MemKernelIdeal.nD Cert.MemKernelIdeal.τ).loc Cert.MemKernelIdeal.main_arg4)) (m ((c.tc : Thread Cert.MemKernelIdeal.nD Cert.MemKernelIdeal.τ).loc Cert.MemKernelIdeal.main_arg5)) (m ((c.tc : Thread Cert.MemKernelIdeal.nD Cert.MemKernelIdeal.τ).loc Cert.MemKernelIdeal.main_arg6)) (m ((c.tc : Thread Cert.MemKernelIdeal.nD Cert.MemKernelIdeal.τ).loc Cert.MemKernelIdeal.main_arg7)) (m ((c.tc : Thread Cert.MemKernelIdeal.nD Cert.MemKernelIdeal.τ).loc Cert.MemKernelIdeal.main_arg8)) (m ((c.tc : Thread Cert.MemKernelIdeal.nD Cert.MemKernelIdeal.τ).loc Cert.MemKernelIdeal.main_arg9))).1 = (fun _ => 1#1)
    ∧ (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3)) (m ((c.tc : Thread Cert.MemKernelIdeal.nD Cert.MemKernelIdeal.τ).loc Cert.MemKernelIdeal.main_arg4)) (m ((c.tc : Thread Cert.MemKernelIdeal.nD Cert.MemKernelIdeal.τ).loc Cert.MemKernelIdeal.main_arg5)) (m ((c.tc : Thread Cert.MemKernelIdeal.nD Cert.MemKernelIdeal.τ).loc Cert.MemKernelIdeal.main_arg6)) (m ((c.tc : Thread Cert.MemKernelIdeal.nD Cert.MemKernelIdeal.τ).loc Cert.MemKernelIdeal.main_arg7)) (m ((c.tc : Thread Cert.MemKernelIdeal.nD Cert.MemKernelIdeal.τ).loc Cert.MemKernelIdeal.main_arg8)) (m ((c.tc : Thread Cert.MemKernelIdeal.nD Cert.MemKernelIdeal.τ).loc Cert.MemKernelIdeal.main_arg9))).2.1 = (fun _ => 1#1)
    ∧ (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3)) (m ((c.tc : Thread Cert.MemKernelIdeal.nD Cert.MemKernelIdeal.τ).loc Cert.MemKernelIdeal.main_arg4)) (m ((c.tc : Thread Cert.MemKernelIdeal.nD Cert.MemKernelIdeal.τ).loc Cert.MemKernelIdeal.main_arg5)) (m ((c.tc : Thread Cert.MemKernelIdeal.nD Cert.MemKernelIdeal.τ).loc Cert.MemKernelIdeal.main_arg6)) (m ((c.tc : Thread Cert.MemKernelIdeal.nD Cert.MemKernelIdeal.τ).loc Cert.MemKernelIdeal.main_arg7)) (m ((c.tc : Thread Cert.MemKernelIdeal.nD Cert.MemKernelIdeal.τ).loc Cert.MemKernelIdeal.main_arg8)) (m ((c.tc : Thread Cert.MemKernelIdeal.nD Cert.MemKernelIdeal.τ).loc Cert.MemKernelIdeal.main_arg9))).2.2.1 = (fun _ => 1#1)
    ∧ (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3)) (m ((c.tc : Thread Cert.MemKernelIdeal.nD Cert.MemKernelIdeal.τ).loc Cert.MemKernelIdeal.main_arg4)) (m ((c.tc : Thread Cert.MemKernelIdeal.nD Cert.MemKernelIdeal.τ).loc Cert.MemKernelIdeal.main_arg5)) (m ((c.tc : Thread Cert.MemKernelIdeal.nD Cert.MemKernelIdeal.τ).loc Cert.MemKernelIdeal.main_arg6)) (m ((c.tc : Thread Cert.MemKernelIdeal.nD Cert.MemKernelIdeal.τ).loc Cert.MemKernelIdeal.main_arg7)) (m ((c.tc : Thread Cert.MemKernelIdeal.nD Cert.MemKernelIdeal.τ).loc Cert.MemKernelIdeal.main_arg8)) (m ((c.tc : Thread Cert.MemKernelIdeal.nD Cert.MemKernelIdeal.τ).loc Cert.MemKernelIdeal.main_arg9))).2.2.2.1 = (fun _ => 1#1)
    ∧ (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3)) (m ((c.tc : Thread Cert.MemKernelIdeal.nD Cert.MemKernelIdeal.τ).loc Cert.MemKernelIdeal.main_arg4)) (m ((c.tc : Thread Cert.MemKernelIdeal.nD Cert.MemKernelIdeal.τ).loc Cert.MemKernelIdeal.main_arg5)) (m ((c.tc : Thread Cert.MemKernelIdeal.nD Cert.MemKernelIdeal.τ).loc Cert.MemKernelIdeal.main_arg6)) (m ((c.tc : Thread Cert.MemKernelIdeal.nD Cert.MemKernelIdeal.τ).loc Cert.MemKernelIdeal.main_arg7)) (m ((c.tc : Thread Cert.MemKernelIdeal.nD Cert.MemKernelIdeal.τ).loc Cert.MemKernelIdeal.main_arg8)) (m ((c.tc : Thread Cert.MemKernelIdeal.nD Cert.MemKernelIdeal.τ).loc Cert.MemKernelIdeal.main_arg9))).2.2.2.2 = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_finite [hPre_mem_finite : Cert.Pre_mem_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4)) (m ((c.tc : Thread Cert.MemReferenceIdeal.nD Cert.MemReferenceIdeal.τ).loc Cert.MemReferenceIdeal.main_arg5)) (m ((c.tc : Thread Cert.MemReferenceIdeal.nD Cert.MemReferenceIdeal.τ).loc Cert.MemReferenceIdeal.main_arg6)) (m ((c.tc : Thread Cert.MemReferenceIdeal.nD Cert.MemReferenceIdeal.τ).loc Cert.MemReferenceIdeal.main_arg7)) (m ((c.tc : Thread Cert.MemReferenceIdeal.nD Cert.MemReferenceIdeal.τ).loc Cert.MemReferenceIdeal.main_arg8)) (m ((c.tc : Thread Cert.MemReferenceIdeal.nD Cert.MemReferenceIdeal.τ).loc Cert.MemReferenceIdeal.main_arg9))).1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4)) (m ((c.tc : Thread Cert.MemReferenceIdeal.nD Cert.MemReferenceIdeal.τ).loc Cert.MemReferenceIdeal.main_arg5)) (m ((c.tc : Thread Cert.MemReferenceIdeal.nD Cert.MemReferenceIdeal.τ).loc Cert.MemReferenceIdeal.main_arg6)) (m ((c.tc : Thread Cert.MemReferenceIdeal.nD Cert.MemReferenceIdeal.τ).loc Cert.MemReferenceIdeal.main_arg7)) (m ((c.tc : Thread Cert.MemReferenceIdeal.nD Cert.MemReferenceIdeal.τ).loc Cert.MemReferenceIdeal.main_arg8)) (m ((c.tc : Thread Cert.MemReferenceIdeal.nD Cert.MemReferenceIdeal.τ).loc Cert.MemReferenceIdeal.main_arg9))).2.1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4)) (m ((c.tc : Thread Cert.MemReferenceIdeal.nD Cert.MemReferenceIdeal.τ).loc Cert.MemReferenceIdeal.main_arg5)) (m ((c.tc : Thread Cert.MemReferenceIdeal.nD Cert.MemReferenceIdeal.τ).loc Cert.MemReferenceIdeal.main_arg6)) (m ((c.tc : Thread Cert.MemReferenceIdeal.nD Cert.MemReferenceIdeal.τ).loc Cert.MemReferenceIdeal.main_arg7)) (m ((c.tc : Thread Cert.MemReferenceIdeal.nD Cert.MemReferenceIdeal.τ).loc Cert.MemReferenceIdeal.main_arg8)) (m ((c.tc : Thread Cert.MemReferenceIdeal.nD Cert.MemReferenceIdeal.τ).loc Cert.MemReferenceIdeal.main_arg9))).2.2.1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4)) (m ((c.tc : Thread Cert.MemReferenceIdeal.nD Cert.MemReferenceIdeal.τ).loc Cert.MemReferenceIdeal.main_arg5)) (m ((c.tc : Thread Cert.MemReferenceIdeal.nD Cert.MemReferenceIdeal.τ).loc Cert.MemReferenceIdeal.main_arg6)) (m ((c.tc : Thread Cert.MemReferenceIdeal.nD Cert.MemReferenceIdeal.τ).loc Cert.MemReferenceIdeal.main_arg7)) (m ((c.tc : Thread Cert.MemReferenceIdeal.nD Cert.MemReferenceIdeal.τ).loc Cert.MemReferenceIdeal.main_arg8)) (m ((c.tc : Thread Cert.MemReferenceIdeal.nD Cert.MemReferenceIdeal.τ).loc Cert.MemReferenceIdeal.main_arg9))).2.2.2.1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4)) (m ((c.tc : Thread Cert.MemReferenceIdeal.nD Cert.MemReferenceIdeal.τ).loc Cert.MemReferenceIdeal.main_arg5)) (m ((c.tc : Thread Cert.MemReferenceIdeal.nD Cert.MemReferenceIdeal.τ).loc Cert.MemReferenceIdeal.main_arg6)) (m ((c.tc : Thread Cert.MemReferenceIdeal.nD Cert.MemReferenceIdeal.τ).loc Cert.MemReferenceIdeal.main_arg7)) (m ((c.tc : Thread Cert.MemReferenceIdeal.nD Cert.MemReferenceIdeal.τ).loc Cert.MemReferenceIdeal.main_arg8)) (m ((c.tc : Thread Cert.MemReferenceIdeal.nD Cert.MemReferenceIdeal.τ).loc Cert.MemReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_PotKernel [hPotKernel : Cert.PotKernel.Facts] : Prop :=
  ∀ (m : (ℓ : Loc Cert.PotKernel.nD Cert.PotKernel.τ Cert.PotKernel.sig) → Buf (Elt Bits) ℓ) (g : Dev Cert.PotKernel.nD → PrngReg), Pre_PotKernel m →
    θ_run (Cert.PotKernel.defs (F := Bits)) (onTc (τ := Cert.PotKernel.τ) (Cert.PotKernel.main (F := Bits))) ⟨m, fun _ => 0, g⟩ (fun r => (∀ c : Dev Cert.PotKernel.nD,
      r.2.mem ((c.tc : Thread Cert.PotKernel.nD Cert.PotKernel.τ).loc Cert.PotKernel.main_arg0) = m ((c.tc : Thread Cert.PotKernel.nD Cert.PotKernel.τ).loc Cert.PotKernel.main_arg0)
      ∧ r.2.mem ((c.tc : Thread Cert.PotKernel.nD Cert.PotKernel.τ).loc Cert.PotKernel.main_arg1) = m ((c.tc : Thread Cert.PotKernel.nD Cert.PotKernel.τ).loc Cert.PotKernel.main_arg1)
      ∧ r.2.mem ((c.tc : Thread Cert.PotKernel.nD Cert.PotKernel.τ).loc Cert.PotKernel.main_arg2) = m ((c.tc : Thread Cert.PotKernel.nD Cert.PotKernel.τ).loc Cert.PotKernel.main_arg2)
      ∧ r.2.mem ((c.tc : Thread Cert.PotKernel.nD Cert.PotKernel.τ).loc Cert.PotKernel.main_arg3) = m ((c.tc : Thread Cert.PotKernel.nD Cert.PotKernel.τ).loc Cert.PotKernel.main_arg3)
      ∧ r.2.mem ((c.tc : Thread Cert.PotKernel.nD Cert.PotKernel.τ).loc Cert.PotKernel.main_arg4) = m ((c.tc : Thread Cert.PotKernel.nD Cert.PotKernel.τ).loc Cert.PotKernel.main_arg4))
      ∧ r.2.sem = fun _ => 0)

def quiescent_PotKernelIdeal [hPotKernelIdeal : Cert.PotKernelIdeal.Facts] : Prop :=
  ∀ (m : (ℓ : Loc Cert.PotKernelIdeal.nD Cert.PotKernelIdeal.τ Cert.PotKernelIdeal.sig) → Buf (Elt Ideal) ℓ) (g : Dev Cert.PotKernelIdeal.nD → PrngReg), Pre_PotKernelIdeal m →
    θ_run (Cert.PotKernelIdeal.defs (F := Ideal)) (onTc (τ := Cert.PotKernelIdeal.τ) (Cert.PotKernelIdeal.main (F := Ideal))) ⟨m, fun _ => 0, g⟩ (fun r => (∀ c : Dev Cert.PotKernelIdeal.nD,
      r.2.mem ((c.tc : Thread Cert.PotKernelIdeal.nD Cert.PotKernelIdeal.τ).loc Cert.PotKernelIdeal.main_arg0) = m ((c.tc : Thread Cert.PotKernelIdeal.nD Cert.PotKernelIdeal.τ).loc Cert.PotKernelIdeal.main_arg0)
      ∧ r.2.mem ((c.tc : Thread Cert.PotKernelIdeal.nD Cert.PotKernelIdeal.τ).loc Cert.PotKernelIdeal.main_arg1) = m ((c.tc : Thread Cert.PotKernelIdeal.nD Cert.PotKernelIdeal.τ).loc Cert.PotKernelIdeal.main_arg1)
      ∧ r.2.mem ((c.tc : Thread Cert.PotKernelIdeal.nD Cert.PotKernelIdeal.τ).loc Cert.PotKernelIdeal.main_arg2) = m ((c.tc : Thread Cert.PotKernelIdeal.nD Cert.PotKernelIdeal.τ).loc Cert.PotKernelIdeal.main_arg2)
      ∧ r.2.mem ((c.tc : Thread Cert.PotKernelIdeal.nD Cert.PotKernelIdeal.τ).loc Cert.PotKernelIdeal.main_arg3) = m ((c.tc : Thread Cert.PotKernelIdeal.nD Cert.PotKernelIdeal.τ).loc Cert.PotKernelIdeal.main_arg3)
      ∧ r.2.mem ((c.tc : Thread Cert.PotKernelIdeal.nD Cert.PotKernelIdeal.τ).loc Cert.PotKernelIdeal.main_arg4) = m ((c.tc : Thread Cert.PotKernelIdeal.nD Cert.PotKernelIdeal.τ).loc Cert.PotKernelIdeal.main_arg4))
      ∧ r.2.sem = fun _ => 0)

def quiescent_PotReferenceIdeal [hPotReferenceIdeal : Cert.PotReferenceIdeal.Facts] : Prop :=
  ∀ (m : (ℓ : Loc Cert.PotReferenceIdeal.nD Cert.PotReferenceIdeal.τ Cert.PotReferenceIdeal.sig) → Buf (Elt Ideal) ℓ) (g : Dev Cert.PotReferenceIdeal.nD → PrngReg), Pre_PotReferenceIdeal m →
    θ_run (Cert.PotReferenceIdeal.defs (F := Ideal)) (onTc (τ := Cert.PotReferenceIdeal.τ) (Cert.PotReferenceIdeal.main (F := Ideal))) ⟨m, fun _ => 0, g⟩ (fun r => (∀ c : Dev Cert.PotReferenceIdeal.nD,
      r.2.mem ((c.tc : Thread Cert.PotReferenceIdeal.nD Cert.PotReferenceIdeal.τ).loc Cert.PotReferenceIdeal.main_arg0) = m ((c.tc : Thread Cert.PotReferenceIdeal.nD Cert.PotReferenceIdeal.τ).loc Cert.PotReferenceIdeal.main_arg0)
      ∧ r.2.mem ((c.tc : Thread Cert.PotReferenceIdeal.nD Cert.PotReferenceIdeal.τ).loc Cert.PotReferenceIdeal.main_arg1) = m ((c.tc : Thread Cert.PotReferenceIdeal.nD Cert.PotReferenceIdeal.τ).loc Cert.PotReferenceIdeal.main_arg1)
      ∧ r.2.mem ((c.tc : Thread Cert.PotReferenceIdeal.nD Cert.PotReferenceIdeal.τ).loc Cert.PotReferenceIdeal.main_arg2) = m ((c.tc : Thread Cert.PotReferenceIdeal.nD Cert.PotReferenceIdeal.τ).loc Cert.PotReferenceIdeal.main_arg2)
      ∧ r.2.mem ((c.tc : Thread Cert.PotReferenceIdeal.nD Cert.PotReferenceIdeal.τ).loc Cert.PotReferenceIdeal.main_arg3) = m ((c.tc : Thread Cert.PotReferenceIdeal.nD Cert.PotReferenceIdeal.τ).loc Cert.PotReferenceIdeal.main_arg3)
      ∧ r.2.mem ((c.tc : Thread Cert.PotReferenceIdeal.nD Cert.PotReferenceIdeal.τ).loc Cert.PotReferenceIdeal.main_arg4) = m ((c.tc : Thread Cert.PotReferenceIdeal.nD Cert.PotReferenceIdeal.τ).loc Cert.PotReferenceIdeal.main_arg4))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3)
      ∧ r.2.mem ((c.tc : Thread Cert.MemKernel.nD Cert.MemKernel.τ).loc Cert.MemKernel.main_arg4) = m ((c.tc : Thread Cert.MemKernel.nD Cert.MemKernel.τ).loc Cert.MemKernel.main_arg4)
      ∧ r.2.mem ((c.tc : Thread Cert.MemKernel.nD Cert.MemKernel.τ).loc Cert.MemKernel.main_arg5) = m ((c.tc : Thread Cert.MemKernel.nD Cert.MemKernel.τ).loc Cert.MemKernel.main_arg5)
      ∧ r.2.mem ((c.tc : Thread Cert.MemKernel.nD Cert.MemKernel.τ).loc Cert.MemKernel.main_arg6) = m ((c.tc : Thread Cert.MemKernel.nD Cert.MemKernel.τ).loc Cert.MemKernel.main_arg6)
      ∧ r.2.mem ((c.tc : Thread Cert.MemKernel.nD Cert.MemKernel.τ).loc Cert.MemKernel.main_arg7) = m ((c.tc : Thread Cert.MemKernel.nD Cert.MemKernel.τ).loc Cert.MemKernel.main_arg7)
      ∧ r.2.mem ((c.tc : Thread Cert.MemKernel.nD Cert.MemKernel.τ).loc Cert.MemKernel.main_arg8) = m ((c.tc : Thread Cert.MemKernel.nD Cert.MemKernel.τ).loc Cert.MemKernel.main_arg8)
      ∧ r.2.mem ((c.tc : Thread Cert.MemKernel.nD Cert.MemKernel.τ).loc Cert.MemKernel.main_arg9) = m ((c.tc : Thread Cert.MemKernel.nD Cert.MemKernel.τ).loc Cert.MemKernel.main_arg9))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
      ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
      ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
      ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
      ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8)
      ∧ r.2.mem ((c.tc : Thread Cert.MemKernelIdeal.nD Cert.MemKernelIdeal.τ).loc Cert.MemKernelIdeal.main_arg9) = m ((c.tc : Thread Cert.MemKernelIdeal.nD Cert.MemKernelIdeal.τ).loc Cert.MemKernelIdeal.main_arg9))
      ∧ r.2.sem = fun _ => 0)

def quiescent_MemKernelIdeal_pre_mem_finite [hMemKernelIdeal : Cert.MemKernelIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_mem_finite m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
      ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
      ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
      ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
      ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8)
      ∧ r.2.mem ((c.tc : Thread Cert.MemKernelIdeal.nD Cert.MemKernelIdeal.τ).loc Cert.MemKernelIdeal.main_arg9) = m ((c.tc : Thread Cert.MemKernelIdeal.nD Cert.MemKernelIdeal.τ).loc Cert.MemKernelIdeal.main_arg9))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6)
      ∧ r.2.mem ((c.tc : Thread Cert.MemReferenceIdeal.nD Cert.MemReferenceIdeal.τ).loc Cert.MemReferenceIdeal.main_arg7) = m ((c.tc : Thread Cert.MemReferenceIdeal.nD Cert.MemReferenceIdeal.τ).loc Cert.MemReferenceIdeal.main_arg7)
      ∧ r.2.mem ((c.tc : Thread Cert.MemReferenceIdeal.nD Cert.MemReferenceIdeal.τ).loc Cert.MemReferenceIdeal.main_arg8) = m ((c.tc : Thread Cert.MemReferenceIdeal.nD Cert.MemReferenceIdeal.τ).loc Cert.MemReferenceIdeal.main_arg8)
      ∧ r.2.mem ((c.tc : Thread Cert.MemReferenceIdeal.nD Cert.MemReferenceIdeal.τ).loc Cert.MemReferenceIdeal.main_arg9) = m ((c.tc : Thread Cert.MemReferenceIdeal.nD Cert.MemReferenceIdeal.τ).loc Cert.MemReferenceIdeal.main_arg9))
      ∧ r.2.sem = fun _ => 0)

def quiescent_MemReferenceIdeal_pre_mem_finite [hMemReferenceIdeal : Cert.MemReferenceIdeal.Facts] [hPre_mem_finite : Cert.Pre_mem_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6)
      ∧ r.2.mem ((c.tc : Thread Cert.MemReferenceIdeal.nD Cert.MemReferenceIdeal.τ).loc Cert.MemReferenceIdeal.main_arg7) = m ((c.tc : Thread Cert.MemReferenceIdeal.nD Cert.MemReferenceIdeal.τ).loc Cert.MemReferenceIdeal.main_arg7)
      ∧ r.2.mem ((c.tc : Thread Cert.MemReferenceIdeal.nD Cert.MemReferenceIdeal.τ).loc Cert.MemReferenceIdeal.main_arg8) = m ((c.tc : Thread Cert.MemReferenceIdeal.nD Cert.MemReferenceIdeal.τ).loc Cert.MemReferenceIdeal.main_arg8)
      ∧ r.2.mem ((c.tc : Thread Cert.MemReferenceIdeal.nD Cert.MemReferenceIdeal.τ).loc Cert.MemReferenceIdeal.main_arg9) = m ((c.tc : Thread Cert.MemReferenceIdeal.nD Cert.MemReferenceIdeal.τ).loc Cert.MemReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_PotKernel_PotKernelIdeal : Prop :=
  True

def algebraic_PotKernelIdeal_PotReferenceIdeal [hPotKernelIdeal : Cert.PotKernelIdeal.Facts] [hPotReferenceIdeal : Cert.PotReferenceIdeal.Facts] : Prop :=
  ∀ (m : (ℓ : Loc Cert.PotKernelIdeal.nD Cert.PotKernelIdeal.τ Cert.PotKernelIdeal.sig) → Buf (Elt Ideal) ℓ) (g : Dev Cert.PotKernelIdeal.nD → PrngReg)
    (m' : (ℓ : Loc Cert.PotReferenceIdeal.nD Cert.PotReferenceIdeal.τ Cert.PotReferenceIdeal.sig) → Buf (Elt Ideal) ℓ) (g' : Dev Cert.PotReferenceIdeal.nD → PrngReg), Pre_PotKernelIdeal m →
    (∀ c : Dev Cert.PotKernelIdeal.nD,
      m' ((c.tc : Thread Cert.PotReferenceIdeal.nD Cert.PotReferenceIdeal.τ).loc Cert.PotReferenceIdeal.main_arg0) = m ((c.tc : Thread Cert.PotKernelIdeal.nD Cert.PotKernelIdeal.τ).loc Cert.PotKernelIdeal.main_arg0)
      ∧ m' ((c.tc : Thread Cert.PotReferenceIdeal.nD Cert.PotReferenceIdeal.τ).loc Cert.PotReferenceIdeal.main_arg1) = m ((c.tc : Thread Cert.PotKernelIdeal.nD Cert.PotKernelIdeal.τ).loc Cert.PotKernelIdeal.main_arg1)
      ∧ m' ((c.tc : Thread Cert.PotReferenceIdeal.nD Cert.PotReferenceIdeal.τ).loc Cert.PotReferenceIdeal.main_arg2) = m ((c.tc : Thread Cert.PotKernelIdeal.nD Cert.PotKernelIdeal.τ).loc Cert.PotKernelIdeal.main_arg2)
      ∧ m' ((c.tc : Thread Cert.PotReferenceIdeal.nD Cert.PotReferenceIdeal.τ).loc Cert.PotReferenceIdeal.main_arg3) = m ((c.tc : Thread Cert.PotKernelIdeal.nD Cert.PotKernelIdeal.τ).loc Cert.PotKernelIdeal.main_arg3)
      ∧ m' ((c.tc : Thread Cert.PotReferenceIdeal.nD Cert.PotReferenceIdeal.τ).loc Cert.PotReferenceIdeal.main_arg4) = m ((c.tc : Thread Cert.PotKernelIdeal.nD Cert.PotKernelIdeal.τ).loc Cert.PotKernelIdeal.main_arg4)) →
    ∃ (v0 : (c : Dev Cert.PotKernelIdeal.nD) → Buf (Elt Ideal) ((c.tc : Thread Cert.PotKernelIdeal.nD Cert.PotKernelIdeal.τ).loc Cert.PotKernelIdeal.main_v4)),
      θ_run (Cert.PotKernelIdeal.defs (F := Ideal)) (onTc (τ := Cert.PotKernelIdeal.τ) (Cert.PotKernelIdeal.main (F := Ideal))) ⟨m, fun _ => 0, g⟩ (fun r => ∀ c : Dev Cert.PotKernelIdeal.nD,
          r.2.mem ((c.tc : Thread Cert.PotKernelIdeal.nD Cert.PotKernelIdeal.τ).loc Cert.PotKernelIdeal.main_v4) = v0 c
          ∧ r.2.mem ((c.tc : Thread Cert.PotKernelIdeal.nD Cert.PotKernelIdeal.τ).loc Cert.PotKernelIdeal.main_arg0) = m ((c.tc : Thread Cert.PotKernelIdeal.nD Cert.PotKernelIdeal.τ).loc Cert.PotKernelIdeal.main_arg0)
          ∧ r.2.mem ((c.tc : Thread Cert.PotKernelIdeal.nD Cert.PotKernelIdeal.τ).loc Cert.PotKernelIdeal.main_arg1) = m ((c.tc : Thread Cert.PotKernelIdeal.nD Cert.PotKernelIdeal.τ).loc Cert.PotKernelIdeal.main_arg1)
          ∧ r.2.mem ((c.tc : Thread Cert.PotKernelIdeal.nD Cert.PotKernelIdeal.τ).loc Cert.PotKernelIdeal.main_arg2) = m ((c.tc : Thread Cert.PotKernelIdeal.nD Cert.PotKernelIdeal.τ).loc Cert.PotKernelIdeal.main_arg2)
          ∧ r.2.mem ((c.tc : Thread Cert.PotKernelIdeal.nD Cert.PotKernelIdeal.τ).loc Cert.PotKernelIdeal.main_arg3) = m ((c.tc : Thread Cert.PotKernelIdeal.nD Cert.PotKernelIdeal.τ).loc Cert.PotKernelIdeal.main_arg3)
          ∧ r.2.mem ((c.tc : Thread Cert.PotKernelIdeal.nD Cert.PotKernelIdeal.τ).loc Cert.PotKernelIdeal.main_arg4) = m ((c.tc : Thread Cert.PotKernelIdeal.nD Cert.PotKernelIdeal.τ).loc Cert.PotKernelIdeal.main_arg4))
      ∧ θ_run (Cert.PotReferenceIdeal.defs (F := Ideal)) (onTc (τ := Cert.PotReferenceIdeal.τ) (Cert.PotReferenceIdeal.main (F := Ideal))) ⟨m', fun _ => 0, g'⟩ (fun r => ∀ c : Dev Cert.PotReferenceIdeal.nD,
          r.2.mem ((c.tc : Thread Cert.PotReferenceIdeal.nD Cert.PotReferenceIdeal.τ).loc Cert.PotReferenceIdeal.main_v32) = v0 c
          ∧ r.2.mem ((c.tc : Thread Cert.PotReferenceIdeal.nD Cert.PotReferenceIdeal.τ).loc Cert.PotReferenceIdeal.main_arg0) = m' ((c.tc : Thread Cert.PotReferenceIdeal.nD Cert.PotReferenceIdeal.τ).loc Cert.PotReferenceIdeal.main_arg0)
          ∧ r.2.mem ((c.tc : Thread Cert.PotReferenceIdeal.nD Cert.PotReferenceIdeal.τ).loc Cert.PotReferenceIdeal.main_arg1) = m' ((c.tc : Thread Cert.PotReferenceIdeal.nD Cert.PotReferenceIdeal.τ).loc Cert.PotReferenceIdeal.main_arg1)
          ∧ r.2.mem ((c.tc : Thread Cert.PotReferenceIdeal.nD Cert.PotReferenceIdeal.τ).loc Cert.PotReferenceIdeal.main_arg2) = m' ((c.tc : Thread Cert.PotReferenceIdeal.nD Cert.PotReferenceIdeal.τ).loc Cert.PotReferenceIdeal.main_arg2)
          ∧ r.2.mem ((c.tc : Thread Cert.PotReferenceIdeal.nD Cert.PotReferenceIdeal.τ).loc Cert.PotReferenceIdeal.main_arg3) = m' ((c.tc : Thread Cert.PotReferenceIdeal.nD Cert.PotReferenceIdeal.τ).loc Cert.PotReferenceIdeal.main_arg3)
          ∧ r.2.mem ((c.tc : Thread Cert.PotReferenceIdeal.nD Cert.PotReferenceIdeal.τ).loc Cert.PotReferenceIdeal.main_arg4) = m' ((c.tc : Thread Cert.PotReferenceIdeal.nD Cert.PotReferenceIdeal.τ).loc Cert.PotReferenceIdeal.main_arg4))

def preserves_MemKernel_MemKernelIdeal : Prop :=
  True

def algebraic_MemKernelIdeal_MemReferenceIdeal_pre_mem_finite [hMemKernelIdeal : Cert.MemKernelIdeal.Facts] [hMemReferenceIdeal : Cert.MemReferenceIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_mem_finite m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)
      ∧ m' ((c.tc : Thread Cert.MemReferenceIdeal.nD Cert.MemReferenceIdeal.τ).loc Cert.MemReferenceIdeal.main_arg4) = m ((c.tc : Thread Cert.MemKernelIdeal.nD Cert.MemKernelIdeal.τ).loc Cert.MemKernelIdeal.main_arg4)
      ∧ m' ((c.tc : Thread Cert.MemReferenceIdeal.nD Cert.MemReferenceIdeal.τ).loc Cert.MemReferenceIdeal.main_arg5) = m ((c.tc : Thread Cert.MemKernelIdeal.nD Cert.MemKernelIdeal.τ).loc Cert.MemKernelIdeal.main_arg5)
      ∧ m' ((c.tc : Thread Cert.MemReferenceIdeal.nD Cert.MemReferenceIdeal.τ).loc Cert.MemReferenceIdeal.main_arg6) = m ((c.tc : Thread Cert.MemKernelIdeal.nD Cert.MemKernelIdeal.τ).loc Cert.MemKernelIdeal.main_arg6)
      ∧ m' ((c.tc : Thread Cert.MemReferenceIdeal.nD Cert.MemReferenceIdeal.τ).loc Cert.MemReferenceIdeal.main_arg7) = m ((c.tc : Thread Cert.MemKernelIdeal.nD Cert.MemKernelIdeal.τ).loc Cert.MemKernelIdeal.main_arg7)
      ∧ m' ((c.tc : Thread Cert.MemReferenceIdeal.nD Cert.MemReferenceIdeal.τ).loc Cert.MemReferenceIdeal.main_arg8) = m ((c.tc : Thread Cert.MemKernelIdeal.nD Cert.MemKernelIdeal.τ).loc Cert.MemKernelIdeal.main_arg8)
      ∧ m' ((c.tc : Thread Cert.MemReferenceIdeal.nD Cert.MemReferenceIdeal.τ).loc Cert.MemReferenceIdeal.main_arg9) = m ((c.tc : Thread Cert.MemKernelIdeal.nD Cert.MemKernelIdeal.τ).loc Cert.MemKernelIdeal.main_arg9)) →
    ∃ (v0 : (c : Dev Cert.MemKernelIdeal.nD) → Buf (Elt Ideal) ((c.tc : Thread Cert.MemKernelIdeal.nD Cert.MemKernelIdeal.τ).loc Cert.MemKernelIdeal.main_v5)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v5) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
          ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
          ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
          ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
          ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
          ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8)
          ∧ r.2.mem ((c.tc : Thread Cert.MemKernelIdeal.nD Cert.MemKernelIdeal.τ).loc Cert.MemKernelIdeal.main_arg9) = m ((c.tc : Thread Cert.MemKernelIdeal.nD Cert.MemKernelIdeal.τ).loc Cert.MemKernelIdeal.main_arg9))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v108) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4)
          ∧ r.2.mem ((c.tc : Thread Cert.MemReferenceIdeal.nD Cert.MemReferenceIdeal.τ).loc Cert.MemReferenceIdeal.main_arg5) = m' ((c.tc : Thread Cert.MemReferenceIdeal.nD Cert.MemReferenceIdeal.τ).loc Cert.MemReferenceIdeal.main_arg5)
          ∧ r.2.mem ((c.tc : Thread Cert.MemReferenceIdeal.nD Cert.MemReferenceIdeal.τ).loc Cert.MemReferenceIdeal.main_arg6) = m' ((c.tc : Thread Cert.MemReferenceIdeal.nD Cert.MemReferenceIdeal.τ).loc Cert.MemReferenceIdeal.main_arg6)
          ∧ r.2.mem ((c.tc : Thread Cert.MemReferenceIdeal.nD Cert.MemReferenceIdeal.τ).loc Cert.MemReferenceIdeal.main_arg7) = m' ((c.tc : Thread Cert.MemReferenceIdeal.nD Cert.MemReferenceIdeal.τ).loc Cert.MemReferenceIdeal.main_arg7)
          ∧ r.2.mem ((c.tc : Thread Cert.MemReferenceIdeal.nD Cert.MemReferenceIdeal.τ).loc Cert.MemReferenceIdeal.main_arg8) = m' ((c.tc : Thread Cert.MemReferenceIdeal.nD Cert.MemReferenceIdeal.τ).loc Cert.MemReferenceIdeal.main_arg8)
          ∧ r.2.mem ((c.tc : Thread Cert.MemReferenceIdeal.nD Cert.MemReferenceIdeal.τ).loc Cert.MemReferenceIdeal.main_arg9) = m' ((c.tc : Thread Cert.MemReferenceIdeal.nD Cert.MemReferenceIdeal.τ).loc Cert.MemReferenceIdeal.main_arg9))

def Claim : Prop :=
  ∃ (hKernel : Cert.Kernel.Facts) (hKernelIdeal : Cert.KernelIdeal.Facts) (hReferenceIdeal : Cert.ReferenceIdeal.Facts) (hPotKernel : Cert.PotKernel.Facts) (hPotKernelIdeal : Cert.PotKernelIdeal.Facts) (hPotReferenceIdeal : Cert.PotReferenceIdeal.Facts) (hMemKernel : Cert.MemKernel.Facts) (hMemKernelIdeal : Cert.MemKernelIdeal.Facts) (hMemReferenceIdeal : Cert.MemReferenceIdeal.Facts) (hPre_mem_finite : Cert.Pre_mem_finite.Facts),
    quiescent_Kernel (hKernel := hKernel)
    ∧ quiescent_KernelIdeal (hKernelIdeal := hKernelIdeal)
    ∧ quiescent_ReferenceIdeal (hReferenceIdeal := hReferenceIdeal)
    ∧ quiescent_PotKernel (hPotKernel := hPotKernel)
    ∧ quiescent_PotKernelIdeal (hPotKernelIdeal := hPotKernelIdeal)
    ∧ quiescent_PotReferenceIdeal (hPotReferenceIdeal := hPotReferenceIdeal)
    ∧ quiescent_MemKernel (hMemKernel := hMemKernel)
    ∧ quiescent_MemKernelIdeal (hMemKernelIdeal := hMemKernelIdeal)
    ∧ quiescent_MemKernelIdeal_pre_mem_finite (hMemKernelIdeal := hMemKernelIdeal) (hPre_mem_finite := hPre_mem_finite)
    ∧ quiescent_MemReferenceIdeal (hMemReferenceIdeal := hMemReferenceIdeal)
    ∧ quiescent_MemReferenceIdeal_pre_mem_finite (hMemReferenceIdeal := hMemReferenceIdeal) (hPre_mem_finite := hPre_mem_finite)
    ∧ preserves_Kernel_KernelIdeal
    ∧ algebraic_KernelIdeal_ReferenceIdeal (hKernelIdeal := hKernelIdeal) (hReferenceIdeal := hReferenceIdeal)
    ∧ preserves_PotKernel_PotKernelIdeal
    ∧ algebraic_PotKernelIdeal_PotReferenceIdeal (hPotKernelIdeal := hPotKernelIdeal) (hPotReferenceIdeal := hPotReferenceIdeal)
    ∧ preserves_MemKernel_MemKernelIdeal
    ∧ algebraic_MemKernelIdeal_MemReferenceIdeal_pre_mem_finite (hMemKernelIdeal := hMemKernelIdeal) (hMemReferenceIdeal := hMemReferenceIdeal) (hPre_mem_finite := hPre_mem_finite)
-- ==== Pre_mem_finite.lean ====
abbrev S4x2048x1024 : Shape := ⟨3, ![4, 2048, 1024]⟩
abbrev S4x2048x8 : Shape := ⟨3, ![4, 2048, 8]⟩
abbrev S1024 : Shape := ⟨1, ![1024]⟩
abbrev S2x1024 : Shape := ⟨2, ![2, 1024]⟩
abbrev S1024x1536 : Shape := ⟨2, ![1024, 1536]⟩
abbrev S1536 : Shape := ⟨1, ![1536]⟩
abbrev S512x1024 : Shape := ⟨2, ![512, 1024]⟩
abbrev S4x2048x1 : Shape := ⟨3, ![4, 2048, 1]⟩
abbrev S4x2048 : Shape := ⟨2, ![4, 2048]⟩
abbrev S_ : Shape := ⟨0, ![]⟩

class Facts : Prop where
  slices_S4x2048x8_S4x2048x1_0_0_5 : S4x2048x8.Slices ![0, 0, 5] S4x2048x1
  shapeCasts_S4x2048x1_S4x2048 : S4x2048x1.ShapeCasts S4x2048
  bcast_S_S4x2048 : S_.BroadcastsInDim S4x2048 (![] : Fin 0 → Fin S4x2048.rank)
  bcast_S_S1024 : S_.BroadcastsInDim S1024 (![] : Fin 0 → Fin S1024.rank)
  bcast_S_S1024x1536 : S_.BroadcastsInDim S1024x1536 (![] : Fin 0 → Fin S1024x1536.rank)
  bcast_S_S1536 : S_.BroadcastsInDim S1536 (![] : Fin 0 → Fin S1536.rank)

variable [Facts]

def fn {F : FTy → Type} [FloatOps F] (main_arg0 : FVec F S4x2048x1024 .f32) (main_arg1 : FVec F S4x2048x8 .f32) (main_arg2 : FVec F S1024 .f32) (main_arg3 : FVec F S1024 .f32) (main_arg4 : FVec F S2x1024 .f32) (main_arg5 : FVec F S1024 .f32) (main_arg6 : FVec F S1024x1536 .f32) (main_arg7 : FVec F S1536 .f32) (main_arg8 : FVec F S512x1024 .f32) (main_arg9 : FVec F S1024 .f32) : IVec S4x2048 1 × IVec S1024 1 × IVec S1024 1 × IVec S1024x1536 1 × IVec S1536 1 :=
  let main_v0 : FVec F S4x2048x1 .f32 := (extractStridedSlice S4x2048x1 ![0, 0, 5] · slices_S4x2048x8_S4x2048x1_0_0_5) main_arg1
  let main_v1 : FVec F S4x2048 .f32 := shapeCast S4x2048 main_v0 shapeCasts_S4x2048x1_S4x2048
  let main_v2 : FVec F S4x2048 .f32 := Host.absf main_v1
  let main_cst : FVec F S_ .f32 := constant S_ .f32 0x7F800000#32
  let main_v3 : FVec F S4x2048 .f32 := broadcastInDim S4x2048 ![] bcast_S_S4x2048 main_cst
  let main_v4 : IVec S4x2048 1 := cmpf .olt main_v2 main_v3
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1024 .f32 := Host.absf main_arg3
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  let main_v11 : FVec F S1024x1536 .f32 := Host.absf main_arg6
  let main_cst_2 : FVec F S_ .f32 := constant S_ .f32 0x7F800000#32
  let main_v12 : FVec F S1024x1536 .f32 := broadcastInDim S1024x1536 ![] bcast_S_S1024x1536 main_cst_2
  let main_v13 : IVec S1024x1536 1 := cmpf .olt main_v11 main_v12
  let main_v14 : FVec F S1536 .f32 := Host.absf main_arg7
  let main_cst_3 : FVec F S_ .f32 := constant S_ .f32 0x7F800000#32
  let main_v15 : FVec F S1536 .f32 := broadcastInDim S1536 ![] bcast_S_S1536 main_cst_3
  let main_v16 : IVec S1536 1 := cmpf .olt main_v14 main_v15
  (main_v4, main_v7, main_v10, main_v13, main_v16)
-- ==== Kernel.lean ====
abbrev S4x2048x1024 : Shape := ⟨3, ![4, 2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8192x1024 : Shape := ⟨2, ![8192, 1024]⟩
abbrev S1x1024 : Shape := ⟨2, ![1, 1024]⟩
abbrev S1x4096 : Shape := ⟨2, ![1, 4096]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x4096, .f32⟩
  | .hbm, ⟨11, _⟩ => ⟨S1x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .f32⟩
  | .local _ .vmem, ⟨5, _⟩ => ⟨S1x4096, .f32⟩
  | .local _ .vmem, ⟨6, _⟩ => ⟨S4096x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2048x1024 : Shape := ⟨3, ![4, 2048, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩
abbrev S8192x1024 : Shape := ⟨2, ![8192, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .i32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x1, .f32⟩
  | .hbm, ⟨43, _⟩ => ⟨S4x2048x1024, .f32⟩
  | .hbm, ⟨44, _⟩ => ⟨S4x2048x1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | .hbm, ⟨48, _⟩ => ⟨S1x1x1024, .f32⟩
  | .hbm, ⟨49, _⟩ => ⟨S4x2048x1024, .f32⟩
  | .hbm, ⟨50, _⟩ => ⟨S4x2048x1024, .f32⟩
  | .hbm, ⟨51, _⟩ => ⟨S4x2048x4096, .f32⟩
  | .hbm, ⟨52, _⟩ => ⟨S1x1x4096, .f32⟩
  | .hbm, ⟨53, _⟩ => ⟨S4x2048x4096, .f32⟩
  | .hbm, ⟨54, _⟩ => ⟨S4x2048x4096, .f32⟩
  | .hbm, ⟨55, _⟩ => ⟨S4x2048x4096, .f32⟩
  | .hbm, ⟨56, _⟩ => ⟨S4x2048x4096, .f32⟩
  | .hbm, ⟨57, _⟩ => ⟨S_, .f32⟩
  | .hbm, ⟨58, _⟩ => ⟨S4x2048x4096, .f32⟩
  | .hbm, ⟨59, _⟩ => ⟨S4x2048x4096, .f32⟩
  | .hbm, ⟨60, _⟩ => ⟨S4x2048x4096, .f32⟩
  | .hbm, ⟨61, _⟩ => ⟨S_, .f32⟩
  | .hbm, ⟨62, _⟩ => ⟨S4x2048x4096, .f32⟩
  | .hbm, ⟨63, _⟩ => ⟨S4x2048x4096, .f32⟩
  | .hbm, ⟨64, _⟩ => ⟨S4x2048x4096, .f32⟩
  | .hbm, ⟨65, _⟩ => ⟨S_, .f32⟩
  | .hbm, ⟨66, _⟩ => ⟨S4x2048x4096, .f32⟩
  | .hbm, ⟨67, _⟩ => ⟨S4x2048x4096, .f32⟩
  | .hbm, ⟨68, _⟩ => ⟨S_, .f32⟩
  | .hbm, ⟨69, _⟩ => ⟨S4x2048x4096, .f32⟩
  | .hbm, ⟨70, _⟩ => ⟨S4x2048x4096, .f32⟩
  | .hbm, ⟨71, _⟩ => ⟨S4x2048x4096, .f32⟩
  | .hbm, ⟨72, _⟩ => ⟨S4x2048x1024, .f32⟩
  | .hbm, ⟨73, _⟩ => ⟨S4x2048x1024, .f32⟩
  | .hbm, ⟨74, _⟩ => ⟨S1x1x1024, .f32⟩
  | .hbm, ⟨75, _⟩ => ⟨S4x2048x1024, .f32⟩
  | .hbm, ⟨76, _⟩ => ⟨S4x2048x1024, .f32⟩
  | .hbm, ⟨77, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_3 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_4 : Ref sig .tc := ⟨.hbm, 65, rfl⟩
abbrev main_v30 : Ref sig .tc := ⟨.hbm, 66, rfl⟩
abbrev main_v31 : Ref sig .tc := ⟨.hbm, 67, rfl⟩
abbrev main_cst_5 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩

abbrev nD : Nat := 1
abbrev τ : Topo := Topo.v7x

variable {F : FTy → Type} [FloatOps F]
-- ==== PotKernel.lean ====
abbrev S4x2048x1024 : Shape := ⟨3, ![4, 2048, 1024]⟩
abbrev S1024 : Shape := ⟨1, ![1024]⟩
abbrev S1024x2 : Shape := ⟨2, ![1024, 2]⟩
abbrev S2 : Shape := ⟨1, ![2]⟩
abbrev S8192x1024 : Shape := ⟨2, ![8192, 1024]⟩
abbrev S1x1024 : Shape := ⟨2, ![1, 1024]⟩
abbrev S1x2 : Shape := ⟨2, ![1, 2]⟩
abbrev S8192x2 : Shape := ⟨2, ![8192, 2]⟩
abbrev S512x1024 : Shape := ⟨2, ![512, 1024]⟩
abbrev S512x2 : Shape := ⟨2, ![512, 2]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x2, .f32⟩
  | .hbm, ⟨4, _⟩ => ⟨S2, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x2, .f32⟩
  | .hbm, ⟨9, _⟩ => ⟨S8192x2, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2, .f32⟩
  | .local _ .vmem, ⟨5, _⟩ => ⟨S1x2, .f32⟩
  | .local _ .vmem, ⟨6, _⟩ => ⟨S512x2, .f32⟩
  | .local _ .vmem, ⟨7, _⟩ => ⟨S512x2, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PotReferenceIdeal.lean ====
abbrev S4x2048x1024 : Shape := ⟨3, ![4, 2048, 1024]⟩
abbrev S1024 : Shape := ⟨1, ![1024]⟩
abbrev S1024x2 : Shape := ⟨2, ![1024, 2]⟩
abbrev S2 : Shape := ⟨1, ![2]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2 : Shape := ⟨3, ![4, 2048, 2]⟩
abbrev S1x1x2 : Shape := ⟨3, ![1, 1, 2]⟩
abbrev S8192x2 : Shape := ⟨2, ![8192, 2]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x2, .f32⟩
  | .hbm, ⟨4, _⟩ => ⟨S2, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .i32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1, .f32⟩
  | .hbm, ⟨41, _⟩ => ⟨S4x2048x1024, .f32⟩
  | .hbm, ⟨42, _⟩ => ⟨S4x2048x1024, .f32⟩
  | .hbm, ⟨43, _⟩ => ⟨S1x1x1024, .f32⟩
  | .hbm, ⟨44, _⟩ => ⟨S4x2048x1024, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | .hbm, ⟨49, _⟩ => ⟨S4x2048x2, .f32⟩
  | .hbm, ⟨50, _⟩ => ⟨S1x1x2, .f32⟩
  | .hbm, ⟨51, _⟩ => ⟨S4x2048x2, .f32⟩
  | .hbm, ⟨52, _⟩ => ⟨S4x2048x2, .f32⟩
  | .hbm, ⟨53, _⟩ => ⟨S4x2048x1, .f32⟩
  | .hbm, ⟨54, _⟩ => ⟨S4x2048, .f32⟩
  | .hbm, ⟨55, _⟩ => ⟨S4x2048x1, .f32⟩
  | .hbm, ⟨56, _⟩ => ⟨S4x2048, .f32⟩
  | .hbm, ⟨57, _⟩ => ⟨S_, .f32⟩
  | .hbm, ⟨58, _⟩ => ⟨S4x2048, .f32⟩
  | .hbm, ⟨59, _⟩ => ⟨S4x2048, .f32⟩
  | .hbm, ⟨60, _⟩ => ⟨S4x2048, .f32⟩
  | .hbm, ⟨61, _⟩ => ⟨S4x2048, .f32⟩
  | .hbm, ⟨62, _⟩ => ⟨S4x2048, .i1⟩
  | .hbm, ⟨63, _⟩ => ⟨S4x2048, .f32⟩
  | .hbm, ⟨64, _⟩ => ⟨S4x2048, .f32⟩
  | .hbm, ⟨65, _⟩ => ⟨S4x2048, .f32⟩
  | .hbm, ⟨66, _⟩ => ⟨S4x2048, .f32⟩
  | .hbm, ⟨67, _⟩ => ⟨S4x2048, .f32⟩
  | .hbm, ⟨68, _⟩ => ⟨S4x2048, .f32⟩
  | .hbm, ⟨69, _⟩ => ⟨S4x2048, .f32⟩
  | .hbm, ⟨70, _⟩ => ⟨S4x2048, .f32⟩
  | .hbm, ⟨71, _⟩ => ⟨S_, .f32⟩
  | .hbm, ⟨72, _⟩ => ⟨S4x2048, .f32⟩
  | .hbm, ⟨73, _⟩ => ⟨S4x2048, .f32⟩
  | .hbm, ⟨74, _⟩ => ⟨S4x2048x1, .f32⟩
  | .hbm, ⟨75, _⟩ => ⟨S4x2048x1, .f32⟩
  | .hbm, ⟨76, _⟩ => ⟨S4x2048x2, .f32⟩
  | .hbm, ⟨77, _⟩ => ⟨S8192x2, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_v26 : Ref sig .tc := ⟨.hbm, 70, rfl⟩
abbrev main_cst_2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩

abbrev nD : Nat := 1
abbrev τ : Topo := Topo.v7x

variable {F : FTy → Type} [FloatOps F]
-- ==== MemKernel.lean ====
abbrev S4x2048x1024 : Shape := ⟨3, ![4, 2048, 1024]⟩
abbrev S4x2048x8 : Shape := ⟨3, ![4, 2048, 8]⟩
abbrev S1024 : Shape := ⟨1, ![1024]⟩
abbrev S2x1024 : Shape := ⟨2, ![2, 1024]⟩
abbrev S1024x1536 : Shape := ⟨2, ![1024, 1536]⟩
abbrev S1536 : Shape := ⟨1, ![1536]⟩
abbrev S512x1024 : Shape := ⟨2, ![512, 1024]⟩
abbrev S1x1024 : Shape := ⟨2, ![1, 1024]⟩
abbrev S1x1536 : Shape := ⟨2, ![1, 1536]⟩
abbrev S2x256x1024 : Shape := ⟨3, ![2, 256, 1024]⟩
abbrev S2x256x8 : Shape := ⟨3, ![2, 256, 8]⟩
abbrev S16x64x64 : Shape := ⟨3, ![16, 64, 64]⟩
abbrev S2x256x512 : Shape := ⟨3, ![2, 256, 512]⟩
abbrev S2x256x1 : Shape := ⟨3, ![2, 256, 1]⟩
abbrev S2x256 : Shape := ⟨2, ![2, 256]⟩
abbrev S1x1x1024 : Shape := ⟨3, ![1, 1, 1024]⟩
abbrev S512x1536 : Shape := ⟨2, ![512, 1536]⟩
abbrev S2x256x1536 : Shape := ⟨3, ![2, 256, 1536]⟩
abbrev S256x256 : Shape := ⟨2, ![256, 256]⟩
abbrev S1x256x1 : Shape := ⟨3, ![1, 256, 1]⟩
abbrev S256x1 : Shape := ⟨2, ![256, 1]⟩
abbrev S1x256 : Shape := ⟨2, ![1, 256]⟩
abbrev S1x1 : Shape := ⟨2, ![1, 1]⟩
abbrev S1x256x64 : Shape := ⟨3, ![1, 256, 64]⟩
abbrev S256x64 : Shape := ⟨2, ![256, 64]⟩
abbrev S1x64x64 : Shape := ⟨3, ![1, 64, 64]⟩
abbrev S64x64 : Shape := ⟨2, ![64, 64]⟩
abbrev S512x512 : Shape := ⟨2, ![512, 512]⟩

abbrev nBuf : Space → Nat
  | .hbm => 16
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x8, .f32⟩
  | .hbm, ⟨2, _⟩ => ⟨S1024, .f32⟩
  | .hbm, ⟨3, _⟩ => ⟨S1024, .f32⟩
  | .hbm, ⟨4, _⟩ => ⟨S2x1024, .f32⟩
  | .hbm, ⟨5, _⟩ => ⟨S1024, .f32⟩
  | .hbm, ⟨6, _⟩ => ⟨S1024x1536, .f32⟩
  | .hbm, ⟨7, _⟩ => ⟨S1536, .f32⟩
  | .hbm, ⟨8, _⟩ => ⟨S512x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1536, .f32⟩
  | .hbm, ⟨14, _⟩ => ⟨S1x1024, .f32⟩
  | .hbm, ⟨15, _⟩ => ⟨S4x2048x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x8, .f32⟩
  | .local _ .vmem, ⟨3, _⟩ => ⟨S2x256x8, .f32⟩
  | .local _ .vmem, ⟨4, _⟩ => ⟨S2x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1536, .f32⟩
  | .local _ .vmem, ⟨9, _⟩ => ⟨S1x1536, .f32⟩
  | .local _ .vmem, ⟨10, _⟩ => ⟨S512x1024, .f32⟩
  | .local _ .vmem, ⟨11, _⟩ => ⟨S1x1024, .f32⟩
  | .local _ .vmem, ⟨12, _⟩ => ⟨S2x256x1024, .f32⟩
  | .local _ .vmem, ⟨13, _⟩ => ⟨S2x256x1024, .f32⟩
  | .local _ .vmem, ⟨14, _⟩ => ⟨S16x64x64, .f32⟩
  | .local _ .vmem, ⟨15, _⟩ => ⟨S2x256x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MemReferenceIdeal.lean ====
abbrev S4x2048x1024 : Shape := ⟨3, ![4, 2048, 1024]⟩
abbrev S4x2048x8 : Shape := ⟨3, ![4, 2048, 8]⟩
abbrev S1024 : Shape := ⟨1, ![1024]⟩
abbrev S2x1024 : Shape := ⟨2, ![2, 1024]⟩
abbrev S1024x1536 : Shape := ⟨2, ![1024, 1536]⟩
abbrev S1536 : Shape := ⟨1, ![1536]⟩
abbrev S512x1024 : Shape := ⟨2, ![512, 1024]⟩
abbrev S4x2048x1 : Shape := ⟨3, ![4, 2048, 1]⟩
abbrev S4x2048 : Shape := ⟨2, ![4, 2048]⟩
abbrev S_ : Shape := ⟨0, ![]⟩
abbrev S4x2048x2 : Shape := ⟨3, ![4, 2048, 2]⟩
abbrev S1x1x1024 : Shape := ⟨3, ![1, 1, 1024]⟩
abbrev S4x2048x1536 : Shape := ⟨3, ![4, 2048, 1536]⟩
abbrev S1x1x1536 : Shape := ⟨3, ![1, 1, 1536]⟩
abbrev S4x2048x3x8x64 : Shape := ⟨5, ![4, 2048, 3, 8, 64]⟩
abbrev S4x2048x1x8x64 : Shape := ⟨5, ![4, 2048, 1, 8, 64]⟩
abbrev S4x2048x8x64 : Shape := ⟨4, ![4, 2048, 8, 64]⟩
abbrev S2048x4x8x64 : Shape := ⟨4, ![2048, 4, 8, 64]⟩
abbrev S2048x4 : Shape := ⟨2, ![2048, 4]⟩
abbrev S4x8x64x64 : Shape := ⟨4, ![4, 8, 64, 64]⟩
abbrev S1x4x8x64 : Shape := ⟨4, ![1, 4, 8, 64]⟩
abbrev S4x8x64 : Shape := ⟨3, ![4, 8, 64]⟩
abbrev S1x4 : Shape := ⟨2, ![1, 4]⟩
abbrev S4 : Shape := ⟨1, ![4]⟩
abbrev S4x1x1x1 : Shape := ⟨4, ![4, 1, 1, 1]⟩
abbrev S4x8x64x1 : Shape := ⟨4, ![4, 8, 64, 1]⟩
abbrev S4x8x1x64 : Shape := ⟨4, ![4, 8, 1, 64]⟩
abbrev S4x2048x512 : Shape := ⟨3, ![4, 2048, 512]⟩

abbrev nBuf : Space → Nat
  | .hbm => 201
  | .vmem => 0
  | .smem => 0
  | _ => 0

abbrev hbmTy0_0 (i : Nat) : BufTy := match i % 128 with
  | 0 => ⟨S4x2048x1024, .f32⟩
  | 1 => ⟨S4x2048x8, .f32⟩
  | 2 => ⟨S1024, .f32⟩
  | 3 => ⟨S1024, .f32⟩
  | 4 => ⟨S2x1024, .f32⟩
  | 5 => ⟨S1024, .f32⟩
  | 6 => ⟨S1024x1536, .f32⟩
  | 7 => ⟨S1536, .f32⟩
  | 8 => ⟨S512x1024, .f32⟩
  | 9 => ⟨S1024, .f32⟩
  | 10 => ⟨S4x2048x1, .f32⟩
  | 11 => ⟨S4x2048, .f32⟩
  | 12 => ⟨S4x2048x1, .f32⟩
  | 13 => ⟨S4x2048, .f32⟩
  | 14 => ⟨S4x2048x1, .f32⟩
  | 15 => ⟨S4x2048, .f32⟩
  | 16 => ⟨S4x2048x1, .f32⟩
  | 17 => ⟨S4x2048, .f32⟩
  | 18 => ⟨S4x2048x1, .f32⟩
  | 19 => ⟨S4x2048, .f32⟩
  | 20 => ⟨S4x2048x1, .f32⟩
  | 21 => ⟨S4x2048, .f32⟩
  | 22 => ⟨S4x2048, .f32⟩
  | 23 => ⟨S_, .f32⟩
  | 24 => ⟨S4x2048, .f32⟩
  | 25 => ⟨S4x2048, .f32⟩
  | 26 => ⟨S4x2048, .f32⟩
  | 27 => ⟨S4x2048, .f32⟩
  | 28 => ⟨S4x2048, .f32⟩
  | 29 => ⟨S4x2048, .f32⟩
  | 30 => ⟨S4x2048, .f32⟩
  | 31 => ⟨S4x2048, .f32⟩
  | 32 => ⟨S4x2048, .f32⟩
  | 33 => ⟨S4x2048, .f32⟩
  | 34 => ⟨S4x2048, .f32⟩
  | 35 => ⟨S4x2048x1, .f32⟩
  | 36 => ⟨S4x2048x1, .f32⟩
  | 37 => ⟨S4x2048x2, .f32⟩
  | 38 => ⟨S4x2048x1024, .f32⟩
  | 39 => ⟨S4x2048x1024, .f32⟩
  | 40 => ⟨S1x1x1024, .f32⟩
  | 41 => ⟨S4x2048x1024, .f32⟩
  | 42 => ⟨S4x2048x1024, .f32⟩
  | 43 => ⟨S_, .f32⟩
  | 44 => ⟨S4x2048, .f32⟩
  | 45 => ⟨S4x2048x1, .f32⟩
  | 46 => ⟨S_, .f32⟩
  | 47 => ⟨S4x2048x1, .f32⟩
  | 48 => ⟨S4x2048x1, .f32⟩
  | 49 => ⟨S_, .i32⟩
  | 50 => ⟨S_, .f32⟩
  | 51 => ⟨S4x2048, .f32⟩
  | 52 => ⟨S4x2048x1, .f32⟩
  | 53 => ⟨S_, .f32⟩
  | 54 => ⟨S4x2048x1, .f32⟩
  | 55 => ⟨S4x2048x1, .f32⟩
  | 56 => ⟨S4x2048x1024, .f32⟩
  | 57 => ⟨S4x2048x1024, .f32⟩
  | 58 => ⟨S4x2048x1024, .f32⟩
  | 59 => ⟨S_, .f32⟩
  | 60 => ⟨S_, .f32⟩
  | 61 => ⟨S_, .f32⟩
  | 62 => ⟨S_, .f32⟩
  | 63 => ⟨S4x2048, .f32⟩
  | 64 => ⟨S4x2048x1, .f32⟩
  | 65 => ⟨S4x2048x1, .f32⟩
  | 66 => ⟨S4x2048x1, .f32⟩
  | 67 => ⟨S_, .f32⟩
  | 68 => ⟨S_, .i1⟩
  | 69 => ⟨S_, .f32⟩
  | 70 => ⟨S_, .f32⟩
  | 71 => ⟨S4x2048x1, .f32⟩
  | 72 => ⟨S4x2048x1, .f32⟩
  | 73 => ⟨S4x2048x1024, .f32⟩
  | 74 => ⟨S4x2048x1024, .f32⟩
  | 75 => ⟨S_, .f32⟩
  | 76 => ⟨S4x2048x1, .f32⟩
  | 77 => ⟨S4x2048x1, .f32⟩
  | 78 => ⟨S4x2048x1, .f32⟩
  | 79 => ⟨S4x2048x1024, .f32⟩
  | 80 => ⟨S4x2048x1024, .f32⟩
  | 81 => ⟨S1x1x1024, .f32⟩
  | 82 => ⟨S4x2048x1024, .f32⟩
  | 83 => ⟨S4x2048x1024, .f32⟩
  | 84 => ⟨S1x1x1024, .f32⟩
  | 85 => ⟨S4x2048x1024, .f32⟩
  | 86 => ⟨S4x2048x1024, .f32⟩
  | 87 => ⟨S4x2048x1536, .f32⟩
  | 88 => ⟨S1x1x1536, .f32⟩
  | 89 => ⟨S4x2048x1536, .f32⟩
  | 90 => ⟨S4x2048x1536, .f32⟩
  | 91 => ⟨S4x2048x3x8x64, .f32⟩
  | 92 => ⟨S4x2048x1x8x64, .f32⟩
  | 93 => ⟨S4x2048x8x64, .f32⟩
  | 94 => ⟨S4x2048x1x8x64, .f32⟩
  | 95 => ⟨S4x2048x8x64, .f32⟩
  | 96 => ⟨S4x2048x1x8x64, .f32⟩
  | 97 => ⟨S4x2048x8x64, .f32⟩
  | 98 => ⟨S4x2048x1, .f32⟩
  | 99 => ⟨S4x2048, .f32⟩
  | 100 => ⟨S2048x4x8x64, .f32⟩
  | 101 => ⟨S2048x4x8x64, .f32⟩
  | 102 => ⟨S2048x4x8x64, .f32⟩
  | 103 => ⟨S2048x4, .f32⟩
  | 104 => ⟨S_, .f32⟩
  | 105 => ⟨S4x8x64x64, .f32⟩
  | 106 => ⟨S_, .f32⟩
  | 107 => ⟨S2048x4x8x64, .f32⟩
  | 108 => ⟨S_, .i32⟩
  | 109 => ⟨S2048x4x8x64, .f32⟩
  | 110 => ⟨S2048x4x8x64, .f32⟩
  | 111 => ⟨S2048x4x8x64, .f32⟩
  | 112 => ⟨S2048x4, .f32⟩
  | 113 => ⟨S_, .i32⟩
  | 114 => ⟨S4x8x64x64, .f32⟩
  | 115 => ⟨S2048x4x8x64, .f32⟩
  | 116 => ⟨S_, .i32⟩
  | 117 => ⟨S_, .i1⟩
  | 118 => ⟨S_, .i32⟩
  | 119 => ⟨S_, .i32⟩
  | 120 => ⟨S_, .i32⟩
  | 121 => ⟨S1x4x8x64, .f32⟩
  | 122 => ⟨S4x8x64, .f32⟩
  | 123 => ⟨S_, .i32⟩
  | 124 => ⟨S_, .i32⟩
  | 125 => ⟨S_, .i32⟩
  | 126 => ⟨S1x4x8x64, .f32⟩
  | 127 => ⟨S4x8x64, .f32⟩
  | _ => ⟨S4x2048x1024, .f32⟩

abbrev hbmTy0_1 (i : Nat) : BufTy := match i % 128 with
  | 0 => ⟨S_, .i32⟩
  | 1 => ⟨S_, .i32⟩
  | 2 => ⟨S_, .i32⟩
  | 3 => ⟨S1x4x8x64, .f32⟩
  | 4 => ⟨S4x8x64, .f32⟩
  | 5 => ⟨S_, .i32⟩
  | 6 => ⟨S1x4, .f32⟩
  | 7 => ⟨S4, .f32⟩
  | 8 => ⟨S4, .f32⟩
  | 9 => ⟨S_, .f32⟩
  | 10 => ⟨S4, .f32⟩
  | 11 => ⟨S4, .f32⟩
  | 12 => ⟨S4, .f32⟩
  | 13 => ⟨S4x1x1x1, .f32⟩
  | 14 => ⟨S4x8x64x64, .f32⟩
  | 15 => ⟨S4x8x64x64, .f32⟩
  | 16 => ⟨S4x8x64x1, .f32⟩
  | 17 => ⟨S4x8x1x64, .f32⟩
  | 18 => ⟨S4x8x64x64, .f32⟩
  | 19 => ⟨S4x8x64x64, .f32⟩
  | 20 => ⟨S4x8x64x64, .f32⟩
  | 21 => ⟨S_, .f32⟩
  | 22 => ⟨S4x8x64x64, .f32⟩
  | 23 => ⟨S4x8x64x64, .f32⟩
  | 24 => ⟨S4x8x64x64, .f32⟩
  | 25 => ⟨S4x8x64, .f32⟩
  | 26 => ⟨S1x4x8x64, .f32⟩
  | 27 => ⟨S_, .i32⟩
  | 28 => ⟨S_, .i32⟩
  | 29 => ⟨S_, .i32⟩
  | 30 => ⟨S2048x4x8x64, .f32⟩
  | 31 => ⟨S_, .i32⟩
  | 32 => ⟨S_, .i32⟩
  | 33 => ⟨S4x2048x8x64, .f32⟩
  | 34 => ⟨S4x2048x512, .f32⟩
  | 35 => ⟨S4x2048x1, .f32⟩
  | 36 => ⟨S4x2048, .f32⟩
  | 37 => ⟨S4x2048x1, .f32⟩
  | 38 => ⟨S4x2048, .f32⟩
  | 39 => ⟨S4x2048x1, .f32⟩
  | 40 => ⟨S4x2048, .f32⟩
  | 41 => ⟨S4x2048x1, .f32⟩
  | 42 => ⟨S4x2048, .f32⟩
  | 43 => ⟨S4x2048x1, .f32⟩
  | 44 => ⟨S4x2048, .f32⟩
  | 45 => ⟨S4x2048x1, .f32⟩
  | 46 => ⟨S4x2048, .f32⟩
  | 47 => ⟨S4x2048, .f32⟩
  | 48 => ⟨S_, .f32⟩
  | 49 => ⟨S4x2048, .f32⟩
  | 50 => ⟨S4x2048, .f32⟩
  | 51 => ⟨S4x2048, .f32⟩
  | 52 => ⟨S4x2048, .f32⟩
  | 53 => ⟨S4x2048, .f32⟩
  | 54 => ⟨S4x2048, .f32⟩
  | 55 => ⟨S4x2048, .f32⟩
  | 56 => ⟨S4x2048, .f32⟩
  | 57 => ⟨S4x2048, .f32⟩
  | 58 => ⟨S4x2048, .f32⟩
  | 59 => ⟨S4x2048, .f32⟩
  | 60 => ⟨S4x2048x1, .f32⟩
  | 61 => ⟨S4x2048x1, .f32⟩
  | 62 => ⟨S4x2048x2, .f32⟩
  | 63 => ⟨S4x2048x1024, .f32⟩
  | 64 => ⟨S4x2048x1024, .f32⟩
  | 65 => ⟨S1x1x1024, .f32⟩
  | 66 => ⟨S4x2048x1024, .f32⟩
  | 67 => ⟨S4x2048x1024, .f32⟩
  | 68 => ⟨S4x2048x1024, .f32⟩
  | 69 => ⟨S4x2048x1024, .f32⟩
  | 70 => ⟨S1x1x1024, .f32⟩
  | 71 => ⟨S4x2048x1024, .f32⟩
  | 72 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_0 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_v12 : Ref sig .tc := ⟨.hbm, 66, rfl⟩
abbrev main_call0_cst_3 : Ref sig .tc := ⟨.hbm, 67, rfl⟩
abbrev main_call0_v13 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_2 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_3 : Ref sig .tc := ⟨.hbm, 104, rfl⟩
abbrev main_v67 : Ref sig .tc := ⟨.hbm, 105, rfl⟩
abbrev main_cst_4 : Ref sig .tc := ⟨.hbm, 106, rfl⟩
abbrev main_v68 : Ref sig .tc := ⟨.hbm, 107, rfl⟩
abbrev main_c_5 : Ref sig .tc := ⟨.hbm, 108, rfl⟩
abbrev main_v69_0 : Ref sig .tc := ⟨.hbm, 109, rfl⟩
abbrev main_v69_1 : Ref sig .tc := ⟨.hbm, 110, rfl⟩
abbrev main_v69_2 : Ref sig .tc := ⟨.hbm, 111, rfl⟩
abbrev main_v69_3 : Ref sig .tc := ⟨.hbm, 112, rfl⟩
abbrev main_v69_4 : Ref sig .tc := ⟨.hbm, 113, rfl⟩
abbrev main_v69_5 : Ref sig .tc := ⟨.hbm, 114, rfl⟩
abbrev main_v69_6 : Ref sig .tc := ⟨.hbm, 115, rfl⟩
abbrev main_while0c_c_13 : Ref sig .tc := ⟨.hbm, 116, rfl⟩
abbrev main_while0c_v109 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_c_1 : Ref sig .tc := ⟨.hbm, 120, rfl⟩
abbrev main_while0b_call1_v0 : Ref sig .tc := ⟨.hbm, 121, rfl⟩
abbrev main_while0b_v109 : Ref sig .tc := ⟨.hbm, 122, rfl⟩
abbrev main_while0b_call2_c : Ref sig .tc := ⟨.hbm, 123, rfl⟩
abbrev main_while0b_call2_c_0 : Ref sig .tc := ⟨.hbm, 124, rfl⟩
abbrev main_while0b_call2_c_1 : Ref sig .tc := ⟨.hbm, 125, rfl⟩
abbrev main_while0b_call2_v0 : Ref sig .tc := ⟨.hbm, 126, rfl⟩
abbrev main_while0b_v110 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_c_1 : Ref sig .tc := ⟨.hbm, 130, rfl⟩
abbrev main_while0b_call3_v0 : Ref sig .tc := ⟨.hbm, 131, rfl⟩
abbrev main_while0b_v111 : Ref sig .tc := ⟨.hbm, 132, rfl⟩
abbrev main_while0b_call4_c : Ref sig .tc := ⟨.hbm, 133, rfl⟩
abbrev main_while0b_call4_v0 : Ref sig .tc := ⟨.hbm, 134, rfl⟩
abbrev main_while0b_v112 : Ref sig .tc := ⟨.hbm, 135, rfl⟩
abbrev main_while0b_v113 : Ref sig .tc := ⟨.hbm, 136, rfl⟩
abbrev main_while0b_cst_13 : Ref sig .tc := ⟨.hbm, 137, rfl⟩
abbrev main_while0b_v114 : Ref sig .tc := ⟨.hbm, 138, rfl⟩
abbrev main_while0b_v115 : Ref sig .tc := ⟨.hbm, 139, rfl⟩
abbrev main_while0b_v116 : Ref sig .tc := ⟨.hbm, 140, rfl⟩
abbrev main_while0b_v117 : Ref sig .tc := ⟨.hbm, 141, rfl⟩
abbrev main_while0b_v118 : Ref sig .tc := ⟨.hbm, 142, rfl⟩
abbrev main_while0b_v119 : Ref sig .tc := ⟨.hbm, 143, rfl⟩
abbrev main_while0b_v120 : Ref sig .tc := ⟨.hbm, 144, rfl⟩
abbrev main_while0b_v121 : Ref sig .tc := ⟨.hbm, 145, rfl⟩
abbrev main_while0b_v122 : Ref sig .tc := ⟨.hbm, 146, rfl⟩
abbrev main_while0b_v123 : Ref sig .tc := ⟨.hbm, 147, rfl⟩
abbrev main_while0b_v124 : Ref sig .tc := ⟨.hbm, 148, rfl⟩
abbrev main_while0b_cst_14 : Ref sig .tc := ⟨.hbm, 149, rfl⟩
abbrev main_while0b_v125 : Ref sig .tc := ⟨.hbm, 150, rfl⟩
abbrev main_while0b_v126 : Ref sig .tc := ⟨.hbm, 151, rfl⟩
abbrev main_while0b_v127 : Ref sig .tc := ⟨.hbm, 152, rfl⟩
abbrev main_while0b_v128 : Ref sig .tc := ⟨.hbm, 153, rfl⟩
abbrev main_while0b_call5_v0 : Ref sig .tc := ⟨.hbm, 154, rfl⟩
abbrev main_while0b_call5_c : Ref sig .tc := ⟨.hbm, 155, rfl⟩
abbrev main_while0b_call5_c_0 : Ref sig .tc := ⟨.hbm, 156, rfl⟩
abbrev main_while0b_call5_c_1 : Ref sig .tc := ⟨.hbm, 157, rfl⟩
abbrev main_while0b_v129 : Ref sig .tc := ⟨.hbm, 158, rfl⟩
abbrev main_while0b_c_15 : Ref sig .tc := ⟨.hbm, 159, rfl⟩
abbrev main_while0b_v130 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_cst_6 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩

abbrev nD : Nat := 1
abbrev τ : Topo := Topo.v7x

variable {F : FTy → Type} [FloatOps F]

abbrev main_while0_count : Scf.Loop 32 := ⟨0#32, 2048#32, 1#32⟩
-- ==== Proof.Layout.lean ====
module

public import proofs.«01_k».proof.Proof.Gen.KernelIdeal
public import Idealize.ShloMosaic.Lib.Pointwise

/-! The host's reshapes in front of the calls, read at an index. -/

@[expose] public section

set_option maxRecDepth 16384

noncomputable section

open Idealize.ShloMosaic Idealize.ShloMosaic.TcCoe Idealize.SL.Sem

namespace Cert.Layout

open Cert.KernelIdeal Cert.KernelIdeal.Gen

/-- A flat row of the reshaped activations is a row of one batch. -/
theorem flat_at (x : FVec Ideal S4x2048x1024 .f32) (r : Fin 8192) (k : Fin 1024) :
    shapeCast S8192x1024 x shapeCasts_S4x2048x1024_S8192x1024 (ix2 r k) =
      x (ix3 ⟨r.val / 2048, by omega⟩ ⟨r.val % 2048, Nat.mod_lt _ (by decide)⟩ k) := by
  pointwise []

/-- A row vector with a unit axis in front is the vector. -/
theorem vec_at (x : FVec Ideal S1024 .f32) (k : Fin 1024) :
    shapeCast S1x1024 x shapeCasts_S1024_S1x1024 (ix2 0 k) = x (ix1 k) := by
  pointwise []

/-- The first bias with a unit axis in front is the bias. -/
theorem wide_at (x : FVec Ideal S4096 .f32) (k : Fin 4096) :
    shapeCast S1x4096 x shapeCasts_S4096_S1x4096 (ix2 0 k) = x (ix1 k) := by
  pointwise []

end Cert.Layout

end
-- ==== Proof.Rows.lean ====
module

public import Idealize.ShloMosaic.Lib.Pointwise
public import Idealize.ShloMosaic.Lib.IdealHost

/-! Row-wise functions over the extended reals, shared by the three calls: the layer norm of a row of 1024
    entries and the feed-forward block of a row. -/

@[expose] public section

set_option maxRecDepth 16384

noncomputable section

open Idealize.ShloMosaic

namespace Cert.Rows

/-- The mean of a row. -/
def mean (x : Fin 1024 → EReal) : EReal := Ideal.div (∑ k, x k) (Ideal.ofBits .f32 0x44800000#32)

/-- The variance of a row about its mean. -/
def var (x : Fin 1024 → EReal) : EReal :=
  Ideal.div (∑ k, (x k - mean x) * (x k - mean x)) (Ideal.ofBits .f32 0x44800000#32)

/-- The layer norm of the row `x` with scale `g` and shift `b`, at column `k`. -/
def ln (x g b : Fin 1024 → EReal) (k : Fin 1024) : EReal :=
  (x k - mean x) * Ideal.rsqrt (var x + Ideal.ofBits .f32 0x3727C5AC#32) * g k + b k

/-- The tanh form of the Gaussian error linear unit. -/
def gelu (y : EReal) : EReal :=
  y * (Ideal.ofBits .f32 0x3F000000#32 * (1 + Ideal.tanh (Ideal.ofBits .f32 0x3F4C422A#32 *
    (y + Ideal.ofBits .f32 0x3D372713#32 * (y * (y * y))))))

/-- The feed-forward block of the row `x`, at column `d`: the residual, the second product of the activated first one, the bias. -/
def ffn (x g b : Fin 1024 → EReal) (w1 : Fin 1024 → Fin 4096 → EReal) (b1 : Fin 4096 → EReal)
    (w2 : Fin 4096 → Fin 1024 → EReal) (b2 : Fin 1024 → EReal) (d : Fin 1024) : EReal :=
  x d + (∑ f, gelu ((∑ k, ln x g b k * w1 k f) + b1 f) * w2 f d) + b2 d

/-- The softplus, by its larger part and the logarithm of the rest. -/
def softplus (y : EReal) : EReal := max y 0 + Ideal.log1p (Ideal.exp (-max y (-y)))

/-- The same function with the sign of the exponent written as a subtraction from zero. -/
theorem softplus_sub (y : EReal) : max y 0 + Ideal.log1p (Ideal.exp (0 - max y (-y))) = softplus y := by
  unfold softplus; rw [zero_sub]

/-- The potential and the damping of the row `x`: column 0 of the product, and the softplus of column 1 above its floor. -/
def pot (x g b : Fin 1024 → EReal) (w : Fin 1024 → Fin 2 → EReal) (b2 : Fin 2 → EReal) (d : Fin 2) : EReal :=
  if d.val < 1 then (∑ k, ln x g b k * w k 0) + b2 0
  else softplus ((∑ k, ln x g b k * w k 1) + b2 1) + Ideal.ofBits .f32 0x3DCCCCCD#32

/-- The float constant the variance and the mean divide by is the row's length. -/
theorem ofBits_1024 : Ideal.ofBits .f32 0x44800000#32 = ((1024 : ℝ) : EReal) := by
  simp [Ideal.ofBits, Ideal.ieee, -EReal.coe_mul]; norm_num

/-- The row's length is positive: the guard of the host's variance holds. -/
theorem guard : 0 < Ideal.ofBits .f32 0x44800000#32 := by
  rw [ofBits_1024]; exact EReal.coe_pos.2 (by norm_num)

/-- The host's conversion of the integer zero, subtracted, changes nothing. -/
theorem sub_sitofp_zero (a : EReal) : a - FloatOps.sitofp (F := Ideal) .f32 (0#32) = a := by
  have h : FloatOps.sitofp (F := Ideal) .f32 (0#32) = (0 : EReal) := by
    show (((0#32 : BitVec 32).toInt : ℝ) : EReal) = 0
    simp
  rw [h, sub_zero]

end Cert.Rows

end
-- ==== Proof.FfnBlock.lean ====
module

public import proofs.«01_k».proof.Proof.Gen.KernelIdeal.Skeleton
public import proofs.«01_k».proof.Proof.Rows

/-! What the feed-forward call computes from one block of 512 rows. -/

@[expose] public section

set_option maxRecDepth 16384

noncomputable section

open Idealize.ShloMosaic Idealize.ShloMosaic.TcCoe Idealize.SL.Sem

namespace Cert.KernelIdeal.Ffn

open Cert.KernelIdeal Cert.KernelIdeal.Gen Cert.Rows

variable (x : FVec Ideal S512x1024 .f32) (g b : FVec Ideal S1x1024 .f32) (w1 : FVec Ideal S1024x4096 .f32)
  (b1 : FVec Ideal S1x4096 .f32) (w2 : FVec Ideal S4096x1024 .f32) (b2 : FVec Ideal S1x1024 .f32)

/-- The hidden layer before its nonlinearity, at row `i` and unit `f` of a block. -/
theorem hidden_at (i : Fin 512) (f : Fin 4096) :
    k0_pay3 (F := Ideal) x g b w1 b1 (ix2 i f) =
      (∑ k, ln (fun k => x (ix2 i k)) (fun k => g (ix2 0 k)) (fun k => b (ix2 0 k)) k * w1 (ix2 k f)) + b1 (ix2 0 f) := by
  pointwise [k0_pay3, k0_pay2]
  rfl

/-- The block the call stores: the feed-forward block of each of its rows. -/
theorem block_at (i : Fin 512) (d : Fin 1024) :
    k0_pay1 (F := Ideal) (k0_pay2 x) (k0_pay3 x g b w1 b1) (k0_pay4 x g b w1 b1) w2 b2 (ix2 i d) =
      ffn (fun k => x (ix2 i k)) (fun k => g (ix2 0 k)) (fun k => b (ix2 0 k)) (fun k f => w1 (ix2 k f))
        (fun f => b1 (ix2 0 f)) (fun f d => w2 (ix2 f d)) (fun d => b2 (ix2 0 d)) d := by
  pointwise [k0_pay1, k0_pay2, k0_pay4]
  simp only [hidden_at]
  rfl

end Cert.KernelIdeal.Ffn

end
-- ==== Proof.FfnReference.lean ====
module

public import proofs.«01_k».proof.Proof.Gen.ReferenceIdeal.Read
public import proofs.«01_k».proof.Proof.Rows

/-! What the reference's feed-forward sub-block computes, read one stage at a time. -/

@[expose] public section

set_option maxRecDepth 16384

noncomputable section

open Idealize.ShloMosaic Idealize.ShloMosaic.TcCoe Idealize.SL.Sem

namespace Cert.ReferenceIdeal.Ffn

open Cert.ReferenceIdeal Cert.ReferenceIdeal.Gen Cert.ReferenceIdeal.Read Cert.Rows

variable (x : FVec Ideal S4x2048x1024 .f32) (g b : FVec Ideal S1024 .f32) (w1 : FVec Ideal S1024x4096 .f32)
  (b1 : FVec Ideal S4096 .f32) (w2 : FVec Ideal S4096x1024 .f32) (b2 : FVec Ideal S1024 .f32)

/-- The variance the host computes for row `n` of batch `bt`. -/
theorem var_at (bt : Fin 4) (n : Fin 2048) (o : Fin 1) :
    val_main_v4 (F := Ideal) x (ix3 bt n o) = var (fun k => x (ix3 bt n k)) := by
  pointwise [val_main_v4, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_cst, val_main_call0_cst_0, val_main_call0_cst_1, val_main_call0_cst_2, val_main_call0_cst_3, val_main_call0_cst_4, val_main_call0_call0_v0, val_main_call0_call0_v1, val_main_c]
  rw [sub_sitofp_zero, if_pos guard]
  rfl

/-- The reference's layer norm at one entry. -/
theorem ln_at (bt : Fin 4) (n : Fin 2048) (k : Fin 1024) :
    val_main_v17 (F := Ideal) x g b (ix3 bt n k) =
      ln (fun k => x (ix3 bt n k)) (fun k => g (ix1 k)) (fun k => b (ix1 k)) k := by
  pointwise [val_main_v17, val_main_v16, val_main_v15, val_main_v14, val_main_v13, val_main_v12, val_main_v11, val_main_v10,
    val_main_v9, val_main_v8, val_main_v7, val_main_v6, val_main_v5, val_main_v3, val_main_v2, val_main_v1, val_main_v0,
    val_main_cst, val_main_cst_0, val_main_cst_1, var_at]
  rfl

/-- The reference's hidden layer before its nonlinearity. -/
theorem hidden_at (bt : Fin 4) (n : Fin 2048) (f : Fin 4096) :
    val_main_v21 (F := Ideal) x g b w1 b1 (ix3 bt n f) =
      (∑ k, ln (fun k => x (ix3 bt n k)) (fun k => g (ix1 k)) (fun k => b (ix1 k)) k * w1 (ix2 k f)) + b1 (ix1 f) := by
  pointwise [val_main_v21, val_main_v20, val_main_v19, val_main_v18, ln_at]

/-- The reference's activation. -/
theorem act_at (bt : Fin 4) (n : Fin 2048) (f : Fin 4096) :
    val_main_v34 (F := Ideal) x g b w1 b1 (ix3 bt n f) =
      gelu (val_main_v21 (F := Ideal) x g b w1 b1 (ix3 bt n f)) := by
  pointwise [val_main_v34, val_main_v33, val_main_v32, val_main_v31, val_main_v30, val_main_v29, val_main_v28, val_main_v27,
    val_main_v26, val_main_v25, val_main_v24, val_main_v23, val_main_v22, val_main_cst_2, val_main_cst_3, val_main_cst_4,
    val_main_cst_5]
  rw [gelu, mul_comm (val_main_v21 (F := Ideal) x g b w1 b1 (ix3 bt n f) * val_main_v21 (F := Ideal) x g b w1 b1 (ix3 bt n f))]

/-- The array the reference returns, as one function of the arguments: row `r` is row `r % 2048` of batch `r / 2048`. -/
def out : FVec Ideal S8192x1024 .f32 := fun j =>
  ffn (fun k => x (ix3 ⟨(j 0).val / 2048, by have := (j 0).isLt; change (j 0).val < 8192 at this; omega⟩
      ⟨(j 0).val % 2048, Nat.mod_lt _ (by decide)⟩ k))
    (fun k => g (ix1 k)) (fun k => b (ix1 k)) (fun k f => w1 (ix2 k f))
    (fun f => b1 (ix1 f)) (fun f d => w2 (ix2 f d)) (fun d => b2 (ix1 d)) (j 1)

/-- The reference's result is `out`. -/
theorem result_eq : val_main_v40 (F := Ideal) x g b w1 b1 w2 b2 = out x g b w1 b1 w2 b2 := by
  funext j
  idx_vars j
  pointwise [val_main_v40, val_main_v39, val_main_v38, val_main_v37, val_main_v36, val_main_v35, act_at, hidden_at, out]
  rfl

end Cert.ReferenceIdeal.Ffn

end
-- ==== Proof.FfnArray.lean ====
module

public import proofs.«01_k».proof.Proof.Gen.KernelIdeal.Value
public import Idealize.ShloMosaic.Lib.Pipeline.ValueKit
public import proofs.«01_k».proof.Proof.Layout
public import proofs.«01_k».proof.Proof.FfnBlock
public import proofs.«01_k».proof.Proof.FfnReference

/-! What the feed-forward call's result array holds after the run: the reference's function of the arguments. -/

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Rows Cert.Layout

variable (m : (ℓ : Loc nD τ sig) → Buf (Elt Ideal) ℓ)

/-- Where each window's block sits: the rows move with the grid point, everything else is its whole array. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![t.val, 0] :=
  (by decide +kernel : ∀ t : Fin grid0.N, _)

/-- Entry `(i, k)` of the row block at point `t` is the argument's entry at flat row `r = 512 t + i`. -/
theorem rows_at (c : Dev nD) (t : Fin cfg0.N) (i : Fin 512) (k : Fin 1024) (r : Fin 8192) (h : r.val = t.val * 512 + i.val) :
    iblk m c 0 t (ix2 i k) = m ((c : Thread nD τ).loc main_arg0)
      (ix3 ⟨r.val / 2048, by omega⟩ ⟨r.val % 2048, Nat.mod_lt _ (by decide)⟩ k) := by
  have e : iblk m c 0 t (ix2 i k) = V m c main_v0 (ix2 r k) := by blk_ext [iblk, idx t]
  have v : V m c main_v0 = shapeCast S8192x1024 (m ((c : Thread nD τ).loc main_arg0)) shapeCasts_S4x2048x1024_S8192x1024 := by
    entry_read; rfl
  rw [e, v]
  exact flat_at _ r k

/-- The scale's block is the scale. -/
theorem scale_at (c : Dev nD) (t : Fin cfg0.N) (k : Fin 1024) :
    iblk m c 1 t (ix2 0 k) = m ((c : Thread nD τ).loc main_arg1) (ix1 k) := by
  have e : iblk m c 1 t (ix2 0 k) = V m c main_v1 (ix2 0 k) := by blk_ext [iblk, idx t]
  have v : V m c main_v1 = shapeCast S1x1024 (m ((c : Thread nD τ).loc main_arg1)) shapeCasts_S1024_S1x1024 := by
    entry_read; rfl
  rw [e, v]
  exact vec_at _ k

/-- The shift's block is the shift. -/
theorem shift_at (c : Dev nD) (t : Fin cfg0.N) (k : Fin 1024) :
    iblk m c 2 t (ix2 0 k) = m ((c : Thread nD τ).loc main_arg2) (ix1 k) := by
  have e : iblk m c 2 t (ix2 0 k) = V m c main_v2 (ix2 0 k) := by blk_ext [iblk, idx t]
  have v : V m c main_v2 = shapeCast S1x1024 (m ((c : Thread nD τ).loc main_arg2)) shapeCasts_S1024_S1x1024 := by
    entry_read; rfl
  rw [e, v]
  exact vec_at _ k

/-- The first weight's block is the weight. -/
theorem w1_at (c : Dev nD) (t : Fin cfg0.N) : iblk m c 3 t = m ((c : Thread nD τ).loc main_arg3) := by
  blk_ext! [iblk, V, idx t]

/-- The first bias's block is the bias. -/
theorem b1_at (c : Dev nD) (t : Fin cfg0.N) (f : Fin 4096) :
    iblk m c 4 t (ix2 0 f) = m ((c : Thread nD τ).loc main_arg4) (ix1 f) := by
  have e : iblk m c 4 t (ix2 0 f) = V m c main_v3 (ix2 0 f) := by blk_ext [iblk, idx t]
  have v : V m c main_v3 = shapeCast S1x4096 (m ((c : Thread nD τ).loc main_arg4)) shapeCasts_S4096_S1x4096 := by
    entry_read; rfl
  rw [e, v]
  exact wide_at _ f

/-- The second weight's block is the weight. -/
theorem w2_at (c : Dev nD) (t : Fin cfg0.N) : iblk m c 5 t = m ((c : Thread nD τ).loc main_arg5) := by
  blk_ext! [iblk, V, idx t]

/-- The second bias's block is the bias. -/
theorem b2_at (c : Dev nD) (t : Fin cfg0.N) (k : Fin 1024) :
    iblk m c 6 t (ix2 0 k) = m ((c : Thread nD τ).loc main_arg6) (ix1 k) := by
  have e : iblk m c 6 t (ix2 0 k) = V m c main_v4 (ix2 0 k) := by blk_ext [iblk, idx t]
  have v : V m c main_v4 = shapeCast S1x1024 (m ((c : Thread nD τ).loc main_arg6)) shapeCasts_S1024_S1x1024 := by
    entry_read; rfl
  rw [e, v]
  exact vec_at _ k

/-- Row `i` of the block written at point `t` is flat row `512 t + i` of the result. -/
theorem out_place (t : Fin cfg0.N) (i : Fin 512) (d : Fin 1024) (r : Fin 8192) (h : r.val = t.val * 512 + i.val) :
    (((cfg0.win 7).blk t).view.emb (ix2 i d : S512x1024.Idx)) = (ix2 r d : S8192x1024.Idx) := by
  blk_ext [idx t]

/-- What the call stores at row `y 0` of its block at point `t` is the reference's function at that row's place. -/
theorem point (c : Dev nD) (t : Fin cfg0.N) (i : Fin 512) (d : Fin 1024) (r : Fin 8192) (h : r.val = t.val * 512 + i.val) :
    k0_pay1 (F := Ideal) (k0_pay2 (iblk m c 0 t)) (k0_pay3 (iblk m c 0 t) (iblk m c 1 t) (iblk m c 2 t) (iblk m c 3 t) (iblk m c 4 t))
      (k0_pay4 (iblk m c 0 t) (iblk m c 1 t) (iblk m c 2 t) (iblk m c 3 t) (iblk m c 4 t)) (iblk m c 5 t) (iblk m c 6 t) (ix2 i d) =
    Cert.ReferenceIdeal.Ffn.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix2 r d) := by
  refine (block_at _ _ _ _ _ _ _ _ _).trans ?_
  rw [funext fun k => rows_at m c t i k r h, funext (scale_at m c t), funext (shift_at m c t), w1_at m c t, w2_at m c t,
    funext (b1_at m c t), funext (b2_at m c t)]
  rfl

/-- The result array after the run. -/
theorem final (c : Dev nD) : (dats m 0 c).arrAt 7 cfg0.N =
    Cert.ReferenceIdeal.Ffn.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 7 _ (by decide +kernel) fun t _ y => ?_
  blk_simp
  rw [after0_7]; frame_out
  idx_vars y
  have hr : t.val < 16 := t.isLt
  exact (point m c t y0 y1 ⟨t.val * 512 + y0.val, by omega⟩ rfl).trans (congrArg _ (out_place t y0 y1 _ rfl).symm)

end Cert.KernelIdeal.Ffn

end
-- ==== Proof.PotBlock.lean ====
module

public import proofs.«01_k».proof.Proof.Gen.PotKernelIdeal.Skeleton
public import proofs.«01_k».proof.Proof.Rows

/-! What the potential call computes from one block of 512 rows. -/

@[expose] public section

set_option maxRecDepth 16384

noncomputable section

open Idealize.ShloMosaic Idealize.ShloMosaic.TcCoe Idealize.SL.Sem

namespace Cert.PotKernelIdeal.Pot

open Cert.PotKernelIdeal Cert.PotKernelIdeal.Gen Cert.Rows

variable (x : FVec Ideal S512x1024 .f32) (g b : FVec Ideal S1x1024 .f32) (w : FVec Ideal S1024x2 .f32)
  (bp : FVec Ideal S1x2 .f32)

/-- The product of the layer norm of a row with the two columns of the weight. -/
theorem product_at (i : Fin 512) (d : Fin 2) :
    k0_pay2 (F := Ideal) x g b w bp (ix2 i d) =
      (∑ k, ln (fun k => x (ix2 i k)) (fun k => g (ix2 0 k)) (fun k => b (ix2 0 k)) k * w (ix2 k d)) + bp (ix2 0 d) := by
  pointwise [k0_pay2]
  rfl

/-- The block the call stores: the potential and the damping of each of its rows. -/
theorem block_at (i : Fin 512) (d : Fin 2) :
    k0_pay1 (F := Ideal) (k0_pay3 x g b w bp) (k0_pay5 x g b w bp) (k0_pay6 x g b w bp) (ix2 i d) =
      pot (fun k => x (ix2 i k)) (fun k => g (ix2 0 k)) (fun k => b (ix2 0 k)) (fun k d => w (ix2 k d))
        (fun d => bp (ix2 0 d)) d := by
  pointwise [k0_pay1, k0_pay3, k0_pay4, k0_pay5, k0_pay6, product_at]
  unfold pot
  match d with
  | ⟨0, _⟩ => rfl
  | ⟨1, _⟩ => exact congrArg (· + Ideal.ofBits .f32 1036831949#32) (softplus_sub _)

end Cert.PotKernelIdeal.Pot

end
-- ==== Proof.PotReference.lean ====
module

public import proofs.«01_k».proof.Proof.Gen.PotReferenceIdeal.Read
public import proofs.«01_k».proof.Proof.FfnReference

/-! What the reference's potential head computes, read one stage at a time. -/

@[expose] public section

set_option maxRecDepth 16384

noncomputable section

open Idealize.ShloMosaic Idealize.ShloMosaic.TcCoe Idealize.SL.Sem

namespace Cert.PotReferenceIdeal.Pot

open Cert.PotReferenceIdeal Cert.PotReferenceIdeal.Gen Cert.PotReferenceIdeal.Read Cert.Rows

variable (x : FVec Ideal S4x2048x1024 .f32) (g b : FVec Ideal S1024 .f32) (w : FVec Ideal S1024x2 .f32)
  (bp : FVec Ideal S2 .f32)

/-- The layer norm is the feed-forward reference's. -/
theorem ln_at (bt : Fin 4) (n : Fin 2048) (k : Fin 1024) :
    val_main_v17 (F := Ideal) x g b (ix3 bt n k) =
      ln (fun k => x (ix3 bt n k)) (fun k => g (ix1 k)) (fun k => b (ix1 k)) k :=
  Cert.ReferenceIdeal.Ffn.ln_at x g b bt n k

/-- The product of the layer norm of a row with the two columns of the weight. -/
theorem product_at (bt : Fin 4) (n : Fin 2048) (d : Fin 2) :
    val_main_v21 (F := Ideal) x g b w bp (ix3 bt n d) =
      (∑ k, ln (fun k => x (ix3 bt n k)) (fun k => g (ix1 k)) (fun k => b (ix1 k)) k * w (ix2 k d)) + bp (ix1 d) := by
  pointwise [val_main_v21, val_main_v20, val_main_v19, val_main_v18, ln_at]

/-- The reference's softplus: its test for a value that is not a number never fires. -/
theorem softplus_at (bt : Fin 4) (n : Fin 2048) :
    val_main_v26 (F := Ideal) x g b w bp (ix2 bt n) = softplus (val_main_v25 (F := Ideal) x g b w bp (ix2 bt n)) := by
  pointwise [val_main_v26, val_main_call1_v11, val_main_call1_v10, val_main_call1_v9, val_main_call1_v8, val_main_call1_v7,
    val_main_call1_v6, val_main_call1_v5, val_main_call1_v4, val_main_call1_v3, val_main_call1_v2, val_main_call1_v1,
    val_main_call1_v0, val_main_call1_cst]
  rw [if_neg (not_not_intro rfl)]
  rfl

/-- The array the reference returns, as one function of the arguments: row `r` is row `r % 2048` of batch `r / 2048`. -/
def out : FVec Ideal S8192x2 .f32 := fun j =>
  pot (fun k => x (ix3 ⟨(j 0).val / 2048, by have := (j 0).isLt; change (j 0).val < 8192 at this; omega⟩
      ⟨(j 0).val % 2048, Nat.mod_lt _ (by decide)⟩ k))
    (fun k => g (ix1 k)) (fun k => b (ix1 k)) (fun k d => w (ix2 k d)) (fun d => bp (ix1 d)) (j 1)

/-- The reference's result is `out`. -/
theorem result_eq : val_main_v32 (F := Ideal) x g b w bp = out x g b w bp := by
  funext j
  idx_vars j
  pointwise [val_main_v32, val_main_v31, val_main_v30, val_main_v29, val_main_v28, val_main_v27, val_main_cst_2, softplus_at,
    val_main_v25, val_main_v24, val_main_v23, val_main_v22, product_at, out]
  rfl

end Cert.PotReferenceIdeal.Pot

end
-- ==== Proof.PotArray.lean ====
module

public import proofs.«01_k».proof.Proof.Gen.PotKernelIdeal.Value
public import Idealize.ShloMosaic.Lib.Pipeline.ValueKit
public import proofs.«01_k».proof.Proof.Layout
public import proofs.«01_k».proof.Proof.PotBlock
public import proofs.«01_k».proof.Proof.PotReference

/-! What the potential call's result array holds after the run: the reference's function of the arguments. -/

@[expose] public section

set_option maxRecDepth 16384

noncomputable section

open Idealize.ShloMosaic Idealize.ShloMosaic.TcCoe Idealize.SL.Sem
open Idealize.ShloMosaic.Pipeline (Dat)

namespace Cert.PotKernelIdeal.Pot

open Cert.PotKernelIdeal Cert.PotKernelIdeal.Gen Cert.Rows Cert.Layout

variable (m : (ℓ : Loc nD τ sig) → Buf (Elt Ideal) ℓ)

/-- Where each window's block sits: the rows move with the grid point, everything else is its whole array. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![t.val, 0] :=
  (by decide +kernel : ∀ t : Fin grid0.N, _)

/-- Entry `(i, k)` of the row block at point `t` is the argument's entry at flat row `r = 512 t + i`. -/
theorem rows_at (c : Dev nD) (t : Fin cfg0.N) (i : Fin 512) (k : Fin 1024) (r : Fin 8192) (h : r.val = t.val * 512 + i.val) :
    iblk m c 0 t (ix2 i k) = m ((c : Thread nD τ).loc main_arg0)
      (ix3 ⟨r.val / 2048, by omega⟩ ⟨r.val % 2048, Nat.mod_lt _ (by decide)⟩ k) := by
  have e : iblk m c 0 t (ix2 i k) = V m c main_v0 (ix2 r k) := by blk_ext [iblk, idx t]
  have v : V m c main_v0 = shapeCast S8192x1024 (m ((c : Thread nD τ).loc main_arg0)) shapeCasts_S4x2048x1024_S8192x1024 := by
    entry_read; rfl
  rw [e, v]
  exact flat_at _ r k

/-- The scale's block is the scale. -/
theorem scale_at (c : Dev nD) (t : Fin cfg0.N) (k : Fin 1024) :
    iblk m c 1 t (ix2 0 k) = m ((c : Thread nD τ).loc main_arg1) (ix1 k) := by
  have e : iblk m c 1 t (ix2 0 k) = V m c main_v1 (ix2 0 k) := by blk_ext [iblk, idx t]
  have v : V m c main_v1 = shapeCast S1x1024 (m ((c : Thread nD τ).loc main_arg1)) shapeCasts_S1024_S1x1024 := by
    entry_read; rfl
  rw [e, v]
  exact vec_at _ k

/-- The shift's block is the shift. -/
theorem shift_at (c : Dev nD) (t : Fin cfg0.N) (k : Fin 1024) :
    iblk m c 2 t (ix2 0 k) = m ((c : Thread nD τ).loc main_arg2) (ix1 k) := by
  have e : iblk m c 2 t (ix2 0 k) = V m c main_v2 (ix2 0 k) := by blk_ext [iblk, idx t]
  have v : V m c main_v2 = shapeCast S1x1024 (m ((c : Thread nD τ).loc main_arg2)) shapeCasts_S1024_S1x1024 := by
    entry_read; rfl
  rw [e, v]
  exact vec_at _ k

/-- The weight's block is the weight. -/
theorem w_at (c : Dev nD) (t : Fin cfg0.N) : iblk m c 3 t = m ((c : Thread nD τ).loc main_arg3) := by
  blk_ext! [iblk, V, idx t]

/-- The bias's block is the bias. -/
theorem bias_at (c : Dev nD) (t : Fin cfg0.N) (d : Fin 2) :
    iblk m c 4 t (ix2 0 d) = m ((c : Thread nD τ).loc main_arg4) (ix1 d) := by
  have e : iblk m c 4 t (ix2 0 d) = V m c main_v3 (ix2 0 d) := by blk_ext [iblk, idx t]
  have v : V m c main_v3 = shapeCast S1x2 (m ((c : Thread nD τ).loc main_arg4)) shapeCasts_S2_S1x2 := by
    entry_read; rfl
  have p (x : FVec Ideal S2 .f32) : shapeCast S1x2 x shapeCasts_S2_S1x2 (ix2 0 d) = x (ix1 d) := by pointwise []
  rw [e, v]
  exact p _

/-- Row `i` of the block written at point `t` is flat row `512 t + i` of the result. -/
theorem out_place (t : Fin cfg0.N) (i : Fin 512) (d : Fin 2) (r : Fin 8192) (h : r.val = t.val * 512 + i.val) :
    (((cfg0.win 5).blk t).view.emb (ix2 i d : S512x2.Idx)) = (ix2 r d : S8192x2.Idx) := by
  blk_ext [idx t]

/-- What the call stores at row `i` of its block at point `t` is the reference's function at that row's place. -/
theorem point (c : Dev nD) (t : Fin cfg0.N) (i : Fin 512) (d : Fin 2) (r : Fin 8192) (h : r.val = t.val * 512 + i.val) :
    k0_pay1 (F := Ideal) (k0_pay3 (iblk m c 0 t) (iblk m c 1 t) (iblk m c 2 t) (iblk m c 3 t) (iblk m c 4 t))
      (k0_pay5 (iblk m c 0 t) (iblk m c 1 t) (iblk m c 2 t) (iblk m c 3 t) (iblk m c 4 t))
      (k0_pay6 (iblk m c 0 t) (iblk m c 1 t) (iblk m c 2 t) (iblk m c 3 t) (iblk m c 4 t)) (ix2 i d) =
    Cert.PotReferenceIdeal.Pot.out (m ((c : Thread nD τ).loc main_arg0)) (m ((c : Thread nD τ).loc main_arg1))
      (m ((c : Thread nD τ).loc main_arg2)) (m ((c : Thread nD τ).loc main_arg3)) (m ((c : Thread nD τ).loc main_arg4))
      (ix2 r d) := by
  refine (block_at _ _ _ _ _ _ _).trans ?_
  rw [funext fun k => rows_at m c t i k r h, funext (scale_at m c t), funext (shift_at m c t), w_at m c t,
    funext (bias_at m c t)]
  rfl

/-- The result array after the run. -/
theorem final (c : Dev nD) : (dats m 0 c).arrAt 5 cfg0.N =
    Cert.PotReferenceIdeal.Pot.out (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  idx_vars y
  have hr : t.val < 16 := t.isLt
  exact (point m c t y0 y1 ⟨t.val * 512 + y0.val, by omega⟩ rfl).trans (congrArg _ (out_place t y0 y1 _ rfl).symm)

end Cert.PotKernelIdeal.Pot

end
-- ==== Proof.Hebb.lean ====
module

public import proofs.«01_k».proof.Proof.Rows

/-! The memory call's functions over the extended reals: the row that enters the memory, and one chunk of 256 steps of one head. -/

@[expose] public section

set_option maxRecDepth 16384

noncomputable section

open Idealize.ShloMosaic

namespace Cert.Hebb

/-- The time step. -/
abbrev DT : EReal := Ideal.ofBits .f32 0x3C23D70A#32

/-- The learning rate. -/
abbrev ETA : EReal := Ideal.ofBits .f32 0x3DCCCCCD#32

/-- One where row `s` is not after row `i` of a chunk, else zero. -/
def mask (s i : Fin 256) : EReal :=
  FloatOps.sitofp (F := Ideal) .f32 (BitVec.setWidth 32 (IntOp.cmpi CmpIPredicate.sle (BitVec.ofNat 32 s.val) (BitVec.ofNat 32 i.val)))

/-- The decay's exponent accumulated up to row `i`. -/
def lcol (γ : Fin 256 → EReal) (i : Fin 256) : EReal := DT * ∑ s, mask s i * γ s

/-- The same sum with the factors the other way round. -/
def lrow (γ : Fin 256 → EReal) (s : Fin 256) : EReal := DT * ∑ x, γ x * mask x s

/-- What a head reads at row `i` of a chunk, from the chunk's rows up to `i` and the memory `W` before the chunk. -/
def out (γ : Fin 256 → EReal) (q k v : Fin 256 → Fin 64 → EReal) (W : Fin 64 → Fin 64 → EReal) (i : Fin 256) (e : Fin 64) : EReal :=
  (∑ s : Fin 256, Scalar.select (IntOp.cmpi CmpIPredicate.sle (BitVec.ofNat 32 s.val) (BitVec.ofNat 32 i.val))
    ((∑ d, q i d * k s d) * (Ideal.exp (lrow γ s - lcol γ i) * ETA) * v s e) 0) +
  ∑ d, q i d * Ideal.exp (0 - lcol γ i) * W d e

/-- The memory a chunk leaves, from the memory `W` before it. -/
def carry (γ : Fin 256 → EReal) (k v : Fin 256 → Fin 64 → EReal) (W : Fin 64 → Fin 64 → EReal) (d e : Fin 64) : EReal :=
  W d e * Ideal.exp (0 - lcol γ 255) + ETA * ∑ s, k s d * Ideal.exp (lcol γ s - lcol γ 255) * v s e

end Cert.Hebb

end
-- ==== Proof.MemBlock.lean ====
module

public import proofs.«01_k».proof.Proof.Gen.MemKernelIdeal.Value
public import Idealize.ShloMosaic.Lib.Pipeline.ValueKit
public import Idealize.ShloMosaic.Lib.Pipeline.ReadBack
public import proofs.«01_k».proof.Proof.Hebb

/-! What the memory call computes from one block of 2 × 256 rows and the memory carried to it. -/

@[expose] public section

set_option maxRecDepth 16384

noncomputable section

open Idealize.ShloMosaic Idealize.ShloMosaic.TcCoe Idealize.SL.Sem

namespace Cert.MemKernelIdeal.Mem

open Cert.MemKernelIdeal Cert.MemKernelIdeal.Gen Cert.Hebb

local notation "I0" => iota Kind.tc S256x256 32 [0] iota_S256x256_d0_w32
local notation "I1" => iota Kind.tc S256x256 32 [1] iota_S256x256_d1_w32

/-- The decay of batch row `r` of a block. -/
def gam (sc : Vec Ideal S2x256x8 .f32) (r : Fin 2) (s : Fin 256) : EReal := sc (ix3 r s 5)

/-- The part of a block's q, k, v that starts at column `o`, of batch row `r` and head `h`. -/
def part (Q : FVec Ideal S2x256x1536 .f32) (r : Fin 2) (p : Fin 3) (h : Fin 8) (s : Fin 256) (d : Fin 64) : EReal :=
  Q (ix3 r s ⟨512 * p.val + 64 * h.val + d.val, by omega⟩)

/-- The queries of the first head are the block's first columns. -/
theorem part_zero (Q : FVec Ideal S2x256x1536 .f32) (r : Fin 2) (h : 0 / 64 < 8) :
    part Q r 0 ⟨0 / 64, h⟩ = fun s d => Q (ix3 r s ⟨d.val, by omega⟩) := by
  funext s d
  exact congrArg Q (congrArg (ix3 r s) (Fin.ext (Nat.zero_add d.val)))

/-- The memory a block leaves: slot `8 r + h` by batch row `r` and head `h`. -/
def carryArr (sc : Vec Ideal S2x256x8 .f32) (Q : FVec Ideal S2x256x1536 .f32) (W : FVec Ideal S16x64x64 .f32) : FVec Ideal S16x64x64 .f32 :=
  fun y => carry (gam sc ⟨(y 0).val / 8, Nat.div_lt_of_lt_mul (y 0).isLt⟩)
    (part Q ⟨(y 0).val / 8, Nat.div_lt_of_lt_mul (y 0).isLt⟩ 1 ⟨(y 0).val % 8, Nat.mod_lt _ (by decide)⟩)
    (part Q ⟨(y 0).val / 8, Nat.div_lt_of_lt_mul (y 0).isLt⟩ 2 ⟨(y 0).val % 8, Nat.mod_lt _ (by decide)⟩)
    (fun d e => W (ix3 (y 0) d e)) (y 1) (y 2)

/-- The memory a block leaves, at entry `(d, e)` of slot `n`. -/
theorem carryArr_slot (sc : Vec Ideal S2x256x8 .f32) (Q : FVec Ideal S2x256x1536 .f32) (W : FVec Ideal S16x64x64 .f32) (n : Nat)
    (hn : n < 16) (inb) (d e : Fin 64) :
    carryArr sc Q W ((Rect.unit (s := S16x64x64) ![n, 0, 0] ![1, 64, 64] inb).emb (ix3 0 d e)) =
      carry (gam sc ⟨n / 8, Nat.div_lt_of_lt_mul hn⟩) (part Q ⟨n / 8, Nat.div_lt_of_lt_mul hn⟩ 1 ⟨n % 8, Nat.mod_lt _ (by decide)⟩)
        (part Q ⟨n / 8, Nat.div_lt_of_lt_mul hn⟩ 2 ⟨n % 8, Nat.mod_lt _ (by decide)⟩) (fun d e => W (ix3 ⟨n, hn⟩ d e)) d e := by
  have h : (Rect.unit (s := S16x64x64) ![n, 0, 0] ![1, 64, 64] inb).emb (ix3 0 d e) = ix3 ⟨n, hn⟩ d e := by
    refine funext fun a => Fin.ext ?_
    refine (Rect.idx_unit_val (s := S16x64x64) ![n, 0, 0] ![1, 64, 64] inb (ix3 0 d e) a).trans ?_
    match a with
    | ⟨0, _⟩ => exact Nat.add_zero n
    | ⟨1, _⟩ => exact Nat.zero_add d.val
    | ⟨2, _⟩ => exact Nat.zero_add e.val
  rw [h]
  rfl

/-- What the heads of a block read: column `64 h + e` by head `h`. -/
def headsArr (sc : Vec Ideal S2x256x8 .f32) (Q : FVec Ideal S2x256x1536 .f32) (W : FVec Ideal S16x64x64 .f32) : FVec Ideal S2x256x512 .f32 :=
  fun y => out (gam sc (y 0)) (part Q (y 0) 0 ⟨(y 2).val / 64, Nat.div_lt_of_lt_mul (y 2).isLt⟩)
    (part Q (y 0) 1 ⟨(y 2).val / 64, Nat.div_lt_of_lt_mul (y 2).isLt⟩) (part Q (y 0) 2 ⟨(y 2).val / 64, Nat.div_lt_of_lt_mul (y 2).isLt⟩)
    (fun d e => W (ix3 ⟨8 * (y 0).val + (y 2).val / 64, by
      have h0 : (y 0).val < 2 := (y 0).isLt
      have h2 : (y 2).val < 512 := (y 2).isLt
      omega⟩ d e)) (y 1) ⟨(y 2).val % 64, Nat.mod_lt _ (by decide)⟩

/-- What the heads read, at entry `(i, e)` of the store at batch row `r` and column `o`. -/
theorem headsArr_slot (sc : Vec Ideal S2x256x8 .f32) (Q : FVec Ideal S2x256x1536 .f32) (W : FVec Ideal S16x64x64 .f32) (r o : Nat)
    (hr : r < 2) (ho : o < 512) (hm : o % 64 = 0) (inb) (i : Fin 256) (e : Fin 64) :
    headsArr sc Q W ((Rect.unit (s := S2x256x512) ![r, 0, o] ![1, 256, 64] inb).emb (ix3 0 i e)) =
      out (gam sc ⟨r, hr⟩) (part Q ⟨r, hr⟩ 0 ⟨o / 64, Nat.div_lt_of_lt_mul ho⟩) (part Q ⟨r, hr⟩ 1 ⟨o / 64, Nat.div_lt_of_lt_mul ho⟩)
        (part Q ⟨r, hr⟩ 2 ⟨o / 64, Nat.div_lt_of_lt_mul ho⟩) (fun d e => W (ix3 ⟨8 * r + o / 64, by omega⟩ d e)) i e := by
  have h : (Rect.unit (s := S2x256x512) ![r, 0, o] ![1, 256, 64] inb).emb (ix3 0 i e) = ix3 ⟨r, hr⟩ i ⟨o + e.val, by omega⟩ := by
    refine funext fun a => Fin.ext ?_
    refine (Rect.idx_unit_val (s := S2x256x512) ![r, 0, o] ![1, 256, 64] inb (ix3 0 i e) a).trans ?_
    match a with
    | ⟨0, _⟩ => exact Nat.add_zero r
    | ⟨1, _⟩ => exact Nat.zero_add i.val
    | ⟨2, _⟩ => rfl
  have hd : (o + e.val) / 64 = o / 64 := by omega
  have he : (⟨(o + e.val) % 64, Nat.mod_lt _ (by decide)⟩ : Fin 64) = e := Fin.ext (by show (o + e.val) % 64 = e.val; omega)
  rw [h]
  show out (gam sc ⟨r, hr⟩) (part Q ⟨r, hr⟩ 0 ⟨(o + e.val) / 64, _⟩) (part Q ⟨r, hr⟩ 1 ⟨(o + e.val) / 64, _⟩)
    (part Q ⟨r, hr⟩ 2 ⟨(o + e.val) / 64, _⟩) (fun d e' => W (ix3 ⟨8 * r + (o + e.val) / 64, _⟩ d e')) i ⟨(o + e.val) % 64, _⟩ = _
  simp only [he, hd]

/-- The load of all the heads reads every entry in its place. -/
theorem heads_whole (inb) (y : S2x256x512.Idx) :
    (Rect.unit (s := S2x256x512) ![0, 0, 0] ![2, 256, 512] inb).toLoadRect.idx y = y := by
  refine funext fun a => Fin.ext ?_
  refine (Rect.idx_unit_val (s := S2x256x512) ![0, 0, 0] ![2, 256, 512] inb y a).trans ?_
  match a with
  | ⟨0, _⟩ => exact Nat.zero_add _
  | ⟨1, _⟩ => exact Nat.zero_add _
  | ⟨2, _⟩ => exact Nat.zero_add _

variable (c : Dev nD) (i : grid0.Coords) (arg2 : Memref sig .tc .vmem S2x256x1024 .f32) (harg2 : arg2.IsWhole)
  (arg3 : Memref sig .tc .vmem S2x256x8 .f32) (harg3 : arg3.IsWhole) (arg4 : Memref sig .tc .vmem S2x1024 .f32)
  (harg4 : arg4.IsWhole) (arg5 : Memref sig .tc .vmem S1x1024 .f32) (harg5 : arg5.IsWhole)
  (arg6 : Memref sig .tc .vmem S1x1024 .f32) (harg6 : arg6.IsWhole) (arg7 : Memref sig .tc .vmem S1x1024 .f32)
  (harg7 : arg7.IsWhole) (arg8 : Memref sig .tc .vmem S1024x1536 .f32) (harg8 : arg8.IsWhole)
  (arg9 : Memref sig .tc .vmem S1x1536 .f32) (harg9 : arg9.IsWhole) (arg10 : Memref sig .tc .vmem S512x1024 .f32)
  (harg10 : arg10.IsWhole) (arg11 : Memref sig .tc .vmem S1x1024 .f32) (harg11 : arg11.IsWhole)
  (arg12 : Memref sig .tc .vmem S2x256x1024 .f32) (harg12 : arg12.IsWhole)
  (arg13 : Memref sig .tc .vmem S16x64x64 .f32) (harg13 : arg13.IsWhole)
  (arg14 : Memref sig .tc .vmem S2x256x512 .f32) (harg14 : arg14.IsWhole)
variable (x0 : Vec Ideal S2x256x1024 .f32) (x1 : Vec Ideal S2x256x8 .f32) (x2 : Vec Ideal S2x1024 .f32) (x3 x4 x5 : Vec Ideal S1x1024 .f32)
  (x6 : Vec Ideal S1024x1536 .f32) (x7 : Vec Ideal S1x1536 .f32) (x8 : Vec Ideal S512x1024 .f32) (x9 : Vec Ideal S1x1024 .f32)
  (xs0 : Vec Ideal S16x64x64 .f32)

/-- The block's q, k and v. -/
def qkvArr : FVec Ideal S2x256x1536 .f32 :=
  k0_pay11 (k0_pay8 x0 x1 (View.ld x2 (Rect.unit ![0, 0] ![1, 1024] inb_S2x1024_S1x1024_0_0)))
    (k0_pay9 x1 (View.ld x2 (Rect.unit ![1, 0] ![1, 1024] inb_S2x1024_S1x1024_1_0))) x3 x4 x5 x6 x7

set_option maxHeartbeats 8000000 in
/-- The first block of a batch starts from a memory of zeros. -/
theorem carry_first (hc0 : cond0_0 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0
      x0 x1 x2 x3 x4 x5 x6 x7 x8 x9 = carryArr x1 (qkvArr x0 x1 x2 x3 x4 x5 x6 x7) (fun _ => 0) := by
  frame_out
  funext y
  refine View.canon_append_of_piecesOf (Val := Elt Ideal) (e := .f32) (carryArr x1 (qkvArr x0 x1 x2 x3 x4 x5 x6 x7) (fun _ => 0)) [_]
    [_, _, _, _, _, _, _, _, _, _, _, _, _, _, _, _] ?_ y ?_
  · refine ⟨?_, ?_, ?_, ?_, ?_, ?_, ?_, ?_, ?_, ?_, ?_, ?_, ?_, ?_, ?_, ?_, trivial⟩
    all_goals
      unfold qkvArr
      dsimp only
      simp (discharger := decide) only [↓View.readCov_skip, ↓View.readCov_fill, Memref.IsWhole.read_unread]
      generalize k0_pay11 (F := Ideal) _ _ _ _ _ _ _ = Q
      clear * -
      intro (z : S1x64x64.Idx)
      idx_vars z
      obtain rfl : z0 = 0 := Subsingleton.elim _ _
      pointwise [
        k0_pay2, k0_pay4, k0_pay12, k0_pay13, k0_pay14, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109,
        k0_pay110, k0_pay111, k0_pay112, k0_pay113, k0_pay114, k0_pay115, k0_pay116, k0_pay117, k0_pay118,
        k0_pay119, k0_pay120, k0_pay121, k0_pay122, k0_pay123]
      rw [carryArr_slot _ _ _ _ (by decide)]
      rfl
  · exact View.cover_of_tiled_head _ _ _ (by rfl) y

set_option maxHeartbeats 8000000 in
/-- A later block carries on from the memory it finds. -/
theorem carry_next (hc0 : ¬ cond0_0 i) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0
      x0 x1 x2 x3 x4 x5 x6 x7 x8 x9 xs0 = carryArr x1 (qkvArr x0 x1 x2 x3 x4 x5 x6 x7) xs0 := by
  frame_out
  funext y
  refine View.canon_apply_of_pieces (Val := Elt Ideal) (e := .f32) (carryArr x1 (qkvArr x0 x1 x2 x3 x4 x5 x6 x7) xs0)
    [_, _, _, _, _, _, _, _, _, _, _, _, _, _, _, _] (View.PiecesOf.mem ?_) y ?_
  · refine ⟨?_, ?_, ?_, ?_, ?_, ?_, ?_, ?_, ?_, ?_, ?_, ?_, ?_, ?_, ?_, ?_, trivial⟩
    all_goals
      unfold qkvArr
      dsimp only
      generalize k0_pay11 (F := Ideal) _ _ _ _ _ _ _ = Q
      clear * -
      intro (z : S1x64x64.Idx)
      idx_vars z
      obtain rfl : z0 = 0 := Subsingleton.elim _ _
      pointwise [
        k0_pay2, k0_pay4, k0_pay12, k0_pay13, k0_pay14, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109,
        k0_pay110, k0_pay111, k0_pay112, k0_pay113, k0_pay114, k0_pay115, k0_pay116, k0_pay117, k0_pay118,
        k0_pay119, k0_pay120, k0_pay121, k0_pay122, k0_pay123]
      rw [carryArr_slot _ _ _ _ (by decide)]
      rfl
  · exact View.cover_of_tiled_head _ _ _ (by rfl) y

/-- The rows that enter the memory. -/
def inputArr : FVec Ideal S2x256x1024 .f32 :=
  k0_pay10 (k0_pay8 x0 x1 (View.ld x2 (Rect.unit ![0, 0] ![1, 1024] inb_S2x1024_S1x1024_0_0)))
    (k0_pay9 x1 (View.ld x2 (Rect.unit ![1, 0] ![1, 1024] inb_S2x1024_S1x1024_1_0))) x3

set_option maxHeartbeats 8000000 in
/-- What the first block of a batch stores. -/
theorem out_first (hc0 : cond0_0 i) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0
      x0 x1 x2 x3 x4 x5 x6 x7 x8 x9 =
      k0_pay3 (inputArr x0 x1 x2 x3) (headsArr x1 (qkvArr x0 x1 x2 x3 x4 x5 x6 x7) (fun _ => 0)) x8 x9 := by
  frame_out
  refine congrArg (fun h => k0_pay3 (F := Ideal) (inputArr x0 x1 x2 x3) h x8 x9) ?_
  rw [View.readCov_eq_canon']
  funext y
  rw [heads_whole]
  refine View.canon_apply_of_pieces (Val := Elt Ideal) (e := .f32) (headsArr x1 (qkvArr x0 x1 x2 x3 x4 x5 x6 x7) (fun _ => 0))
    [_, _, _, _, _, _, _, _, _, _, _, _, _, _, _, _] (View.PiecesOf.mem ?_) y ?_
  · refine ⟨?_, ?_, ?_, ?_, ?_, ?_, ?_, ?_, ?_, ?_, ?_, ?_, ?_, ?_, ?_, ?_, trivial⟩
    all_goals
      unfold qkvArr
      dsimp only
      simp (discharger := decide) only [↓View.readCov_skip, ↓View.readCov_fill]
      generalize k0_pay11 (F := Ideal) _ _ _ _ _ _ _ = Q
      clear * -
      intro (z : S1x256x64.Idx)
      idx_vars z
      obtain rfl : z0 = 0 := Subsingleton.elim _ _
      pointwise [
        k0_pay1, k0_pay4, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay79, k0_pay80, k0_pay81, k0_pay82, k0_pay83,
        k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102,
        k0_pay103, k0_pay104, k0_pay105, k0_pay106, k0_pay107, k0_pay108, k0_pay109, k0_pay110, k0_pay111,
        k0_pay112, k0_pay113, k0_pay114, k0_pay115, k0_pay116, k0_pay117, k0_pay118, k0_pay119, k0_pay120,
        k0_pay121, k0_pay122, k0_pay123, k0_pay124]
      rw [headsArr_slot _ _ _ _ _ (by decide) (by decide) (by decide)]
      first | rfl | (rw [part_zero]; rfl)
  · exact View.cover_of_tiled_head _ _ _ (by rfl) y

set_option maxHeartbeats 8000000 in
/-- What a later block of a batch stores. -/
theorem out_next (hc0 : ¬ cond0_0 i) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc0
      x0 x1 x2 x3 x4 x5 x6 x7 x8 x9 xs0 =
      k0_pay3 (inputArr x0 x1 x2 x3) (headsArr x1 (qkvArr x0 x1 x2 x3 x4 x5 x6 x7) xs0) x8 x9 := by
  frame_out
  refine congrArg (fun h => k0_pay3 (F := Ideal) (inputArr x0 x1 x2 x3) h x8 x9) ?_
  rw [View.readCov_eq_canon']
  funext y
  rw [heads_whole]
  refine View.canon_apply_of_pieces (Val := Elt Ideal) (e := .f32) (headsArr x1 (qkvArr x0 x1 x2 x3 x4 x5 x6 x7) xs0)
    [_, _, _, _, _, _, _, _, _, _, _, _, _, _, _, _] (View.PiecesOf.mem ?_) y ?_
  · refine ⟨?_, ?_, ?_, ?_, ?_, ?_, ?_, ?_, ?_, ?_, ?_, ?_, ?_, ?_, ?_, ?_, trivial⟩
    all_goals
      unfold qkvArr
      dsimp only
      generalize k0_pay11 (F := Ideal) _ _ _ _ _ _ _ = Q
      clear * -
      intro (z : S1x256x64.Idx)
      idx_vars z
      obtain rfl : z0 = 0 := Subsingleton.elim _ _
      pointwise [
        k0_pay1, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay79, k0_pay80, k0_pay81, k0_pay82, k0_pay83,
        k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102,
        k0_pay103, k0_pay104, k0_pay105, k0_pay106, k0_pay107, k0_pay108, k0_pay109, k0_pay110, k0_pay111,
        k0_pay112, k0_pay113, k0_pay114, k0_pay115, k0_pay116, k0_pay117, k0_pay118, k0_pay119, k0_pay120,
        k0_pay121, k0_pay122, k0_pay123, k0_pay124]
      rw [headsArr_slot _ _ _ _ _ (by decide) (by decide) (by decide)]
      first | rfl | (rw [part_zero]; rfl)
  · exact View.cover_of_tiled_head _ _ _ (by rfl) y

end Cert.MemKernelIdeal.Mem

end
-- ==== Proof.Chunk.lean ====
module

public import Mathlib.Analysis.SpecialFunctions.Exp
public import proofs.«01_k».proof.Proof.Hebb

/-! One chunk of the memory over the real numbers: the step-by-step recurrence, its closed form, and what a chunk computes at once. -/

@[expose] public section

noncomputable section

namespace Cert.Chunk

variable (dt eta : ℝ) (g : ℕ → ℝ) (q k v : ℕ → Fin 64 → ℝ) (w : Fin 64 → Fin 64 → ℝ)

/-- The memory after `n` steps from `w`: each step lets it decay and adds a product of the step's key and value. -/
def mem : ℕ → Fin 64 → Fin 64 → ℝ
  | 0 => w
  | n + 1 => fun d e => Real.exp (-g n * dt) * mem n d e + eta * (k n d * v n e)

/-- The decay's exponent accumulated over the first `n` steps. -/
def acc (n : ℕ) : ℝ := dt * ∑ s ∈ Finset.range n, g s

/-- The memory in closed form. -/
theorem mem_eq (n : ℕ) (d e : Fin 64) :
    mem dt eta g k v w n d e = w d e * Real.exp (0 - acc dt g n) +
      eta * ∑ s ∈ Finset.range n, k s d * Real.exp (acc dt g (s + 1) - acc dt g n) * v s e := by
  induction n with
  | zero => simp [mem, acc]
  | succ n ih =>
    have ha : acc dt g (n + 1) = acc dt g n + g n * dt := by
      simp only [acc, Finset.sum_range_succ]; ring
    have he (x : ℝ) : Real.exp (x - acc dt g (n + 1)) = Real.exp (-g n * dt) * Real.exp (x - acc dt g n) := by
      rw [ha, ← Real.exp_add]; congr 1; ring
    have h1 : Real.exp (acc dt g (n + 1) - acc dt g (n + 1)) = 1 := by rw [sub_self, Real.exp_zero]
    simp only [mem]
    rw [ih, Finset.sum_range_succ, h1, he 0]
    have hs : ∑ s ∈ Finset.range n, k s d * Real.exp (acc dt g (s + 1) - acc dt g (n + 1)) * v s e =
        Real.exp (-g n * dt) * ∑ s ∈ Finset.range n, k s d * Real.exp (acc dt g (s + 1) - acc dt g n) * v s e := by
      rw [Finset.mul_sum]
      exact Finset.sum_congr rfl fun s _ => by rw [he]; ring
    rw [hs]
    ring

/-- What step `n` reads from the memory it leaves, from the steps up to it and the memory before the chunk. -/
theorem read_eq (n : ℕ) (e : Fin 64) :
    (∑ s ∈ Finset.range (n + 1), (∑ d, q n d * k s d) * (Real.exp (acc dt g (s + 1) - acc dt g (n + 1)) * eta) * v s e) +
        ∑ d, q n d * Real.exp (0 - acc dt g (n + 1)) * w d e =
      ∑ d, q n d * mem dt eta g k v w (n + 1) d e := by
  simp only [mem_eq, mul_add, Finset.sum_add_distrib, Finset.mul_sum, Finset.sum_mul]
  rw [add_comm, Finset.sum_comm]
  congr 1
  · exact Finset.sum_congr rfl fun d _ => by ring
  · exact Finset.sum_congr rfl fun d _ => Finset.sum_congr rfl fun s _ => by ring

/-- A sum over a chunk's rows, masked to those up to row `i`, is the sum over those rows. -/
theorem masked_sum (f : ℕ → ℝ) (i : Fin 256) :
    (∑ s : Fin 256, if s.val ≤ i.val then f s.val else 0) = ∑ s ∈ Finset.range (i.val + 1), f s := by
  rw [Fin.sum_univ_eq_sum_range (fun s => if s ≤ i.val then f s else 0) 256, ← Finset.sum_filter]
  refine Finset.sum_congr (Finset.ext fun s => ?_) fun _ _ => rfl
  simp only [Finset.mem_filter, Finset.mem_range]
  omega

end Cert.Chunk

end
-- ==== Proof.ChunkIdeal.lean ====
module

public import Idealize.ShloMosaic.Lib.WordCmp
public import proofs.«01_k».proof.Proof.Chunk

/-! A chunk over the extended reals, on finite rows: what it computes at once is what the step-by-step recurrence gives. -/

@[expose] public section

noncomputable section

open Idealize.ShloMosaic

namespace Cert.Hebb

/-- The value is a real number. -/
def IsReal (x : EReal) : Prop := ∃ r : ℝ, x = (r : EReal)

/-- The memory after `n` steps from `W`. -/
def mem (γ : ℕ → EReal) (k v : ℕ → Fin 64 → EReal) (W : Fin 64 → Fin 64 → EReal) : ℕ → Fin 64 → Fin 64 → EReal
  | 0 => W
  | n + 1 => fun d e => Ideal.exp (-γ n * DT) * mem γ k v W n d e + ETA * (k n d * v n e)

/-- What a head reads at step `n`: the step's query against the memory the step leaves. -/
def read (γ : ℕ → EReal) (q k v : ℕ → Fin 64 → EReal) (W : Fin 64 → Fin 64 → EReal) (n : ℕ) (e : Fin 64) : EReal :=
  ∑ d, q n d * mem γ k v W (n + 1) d e

/-- Steps after step `a` are steps from the memory that step left. -/
theorem mem_add (γ : ℕ → EReal) (k v : ℕ → Fin 64 → EReal) (W : Fin 64 → Fin 64 → EReal) (a n : ℕ) :
    mem (fun s => γ (a + s)) (fun s => k (a + s)) (fun s => v (a + s)) (mem γ k v W a) n = mem γ k v W (a + n) := by
  induction n with
  | zero => rfl
  | succ n ih => funext d e; rw [← Nat.add_assoc]; simp only [mem, ih]

/-- The time step is a real number. -/
theorem DT_real : IsReal DT := ⟨_, by simp [DT, Ideal.ofBits, Ideal.ieee, -EReal.coe_mul]; rfl⟩

/-- The learning rate is a real number. -/
theorem ETA_real : IsReal ETA := ⟨_, by simp [ETA, Ideal.ofBits, Ideal.ieee, -EReal.coe_mul]; rfl⟩

/-- A finite sum of real numbers. -/
theorem coe_sum {ι : Type} [Fintype ι] (f : ι → ℝ) : (∑ i, (f i : EReal)) = ((∑ i, f i : ℝ) : EReal) :=
  (map_sum (⟨⟨Real.toEReal, rfl⟩, EReal.coe_add⟩ : ℝ →+ EReal) f Finset.univ).symm

/-- The order of two rows, compared as words. -/
theorem cmpi_row (s i : Fin 256) : IntOp.cmpi CmpIPredicate.sle (BitVec.ofNat 32 s.val) (BitVec.ofNat 32 i.val) =
    BitVec.ofBool (decide (s.val ≤ i.val)) :=
  WordCmp.cmpi_sle_ofNat (by have := s.isLt; omega) (by have := i.isLt; omega)

/-- The mask is one up to row `i` and zero after it. -/
theorem mask_eq (s i : Fin 256) : mask s i = if s.val ≤ i.val then 1 else 0 := by
  unfold mask
  rw [cmpi_row]
  by_cases h : s.val ≤ i.val
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

/-- A selection by the order of two rows. -/
theorem select_row (s i : Fin 256) (a : EReal) :
    Scalar.select (IntOp.cmpi CmpIPredicate.sle (BitVec.ofNat 32 s.val) (BitVec.ofNat 32 i.val)) a 0 =
      if s.val ≤ i.val then a else 0 := by
  rw [cmpi_row]
  by_cases h : s.val ≤ i.val
  · rw [if_pos h, decide_eq_true h]; rfl
  · rw [if_neg h, decide_eq_false h]; rfl

section
variable {dt eta : ℝ} (hdt : DT = (dt : EReal)) (heta : ETA = (eta : EReal))
  (g : ℕ → ℝ) (q k v : ℕ → Fin 64 → ℝ) (w : Fin 64 → Fin 64 → ℝ)

include hdt heta in
theorem mem_coe (n : ℕ) (d e : Fin 64) :
    mem (fun s => (g s : EReal)) (fun s d => (k s d : EReal)) (fun s e => (v s e : EReal)) (fun d e => (w d e : EReal)) n d e =
      (Chunk.mem dt eta g k v w n d e : EReal) := by
  induction n with
  | zero => rfl
  | succ n ih =>
    simp only [mem, Chunk.mem, ih, hdt, heta]
    rw [← EReal.coe_neg, ← EReal.coe_mul, ← EReal.coe_mul, ← EReal.coe_mul]
    rw [EReal.coe_add, EReal.coe_mul]
    rfl

include hdt in
theorem lcol_coe (i : Fin 256) : lcol (fun s => (g s.val : EReal)) i = (Chunk.acc dt g (i.val + 1) : EReal) := by
  unfold lcol Chunk.acc
  rw [hdt, EReal.coe_mul, ← Chunk.masked_sum, ← coe_sum]
  refine congrArg _ (Finset.sum_congr rfl fun s _ => ?_)
  rw [mask_eq]
  split <;> simp

include hdt in
theorem lrow_coe (i : Fin 256) : lrow (fun s => (g s.val : EReal)) i = (Chunk.acc dt g (i.val + 1) : EReal) := by
  rw [← lcol_coe hdt]
  unfold lrow lcol
  exact congrArg _ (Finset.sum_congr rfl fun s _ => mul_comm _ _)

include hdt heta in
theorem carry_coe (d e : Fin 64) :
    carry (fun s => (g s.val : EReal)) (fun s d => (k s.val d : EReal)) (fun s e => (v s.val e : EReal)) (fun d e => (w d e : EReal)) d e =
      (Chunk.mem dt eta g k v w 256 d e : EReal) := by
  have he (a b : ℝ) : Ideal.exp ((a : EReal) - (b : EReal)) = ((Real.exp (a - b) : ℝ) : EReal) := by
    rw [← EReal.coe_sub]; rfl
  unfold carry
  simp only [lcol_coe hdt, heta]
  rw [show (0 : EReal) = ((0 : ℝ) : EReal) from rfl]
  simp only [he, ← EReal.coe_mul, coe_sum, ← EReal.coe_add]
  rw [Chunk.mem_eq, Fin.sum_univ_eq_sum_range (fun s => k s d * Real.exp (Chunk.acc dt g (s + 1) - Chunk.acc dt g (((255 : Fin 256) : ℕ) + 1)) * v s e) 256]
  rfl

include hdt heta in
theorem out_coe (i : Fin 256) (e : Fin 64) :
    out (fun s => (g s.val : EReal)) (fun s d => (q s.val d : EReal)) (fun s d => (k s.val d : EReal)) (fun s e => (v s.val e : EReal))
        (fun d e => (w d e : EReal)) i e =
      ((∑ d, q i.val d * Chunk.mem dt eta g k v w (i.val + 1) d e : ℝ) : EReal) := by
  have he (a b : ℝ) : Ideal.exp ((a : EReal) - (b : EReal)) = ((Real.exp (a - b) : ℝ) : EReal) := by
    rw [← EReal.coe_sub]; rfl
  have hi (p : Prop) [Decidable p] (a : ℝ) : (if p then (a : EReal) else ((0 : ℝ) : EReal)) = ((if p then a else 0 : ℝ) : EReal) := by
    split <;> rfl
  unfold out
  simp only [lcol_coe hdt, lrow_coe hdt, heta, select_row]
  rw [show (0 : EReal) = ((0 : ℝ) : EReal) from rfl]
  simp only [he, ← EReal.coe_mul, coe_sum, hi, ← EReal.coe_add]
  rw [← Chunk.read_eq, ← Chunk.masked_sum]

end

/-- On finite rows and a finite memory, a chunk leaves the memory of its 256 steps. -/
theorem carry_eq (γ : ℕ → EReal) (k v : ℕ → Fin 64 → EReal) (W : Fin 64 → Fin 64 → EReal) (hγ : ∀ n, IsReal (γ n))
    (hk : ∀ n d, IsReal (k n d)) (hv : ∀ n d, IsReal (v n d)) (hW : ∀ d e, IsReal (W d e)) (d e : Fin 64) :
    carry (fun s => γ s.val) (fun s => k s.val) (fun s => v s.val) W d e = mem γ k v W 256 d e := by
  obtain ⟨dt, hdt⟩ := DT_real
  obtain ⟨eta, heta⟩ := ETA_real
  choose g hg using hγ
  choose k' hk using hk
  choose v' hv using hv
  choose w hw using hW
  obtain rfl : γ = fun n => (g n : EReal) := funext hg
  obtain rfl : k = fun n d => (k' n d : EReal) := funext fun n => funext (hk n)
  obtain rfl : v = fun n d => (v' n d : EReal) := funext fun n => funext (hv n)
  obtain rfl : W = fun d e => (w d e : EReal) := funext fun n => funext (hw n)
  rw [carry_coe hdt heta, mem_coe hdt heta]

/-- On finite rows and a finite memory, a chunk reads what its steps read. -/
theorem out_eq (γ : ℕ → EReal) (q k v : ℕ → Fin 64 → EReal) (W : Fin 64 → Fin 64 → EReal) (hγ : ∀ n, IsReal (γ n))
    (hq : ∀ n d, IsReal (q n d)) (hk : ∀ n d, IsReal (k n d)) (hv : ∀ n d, IsReal (v n d)) (hW : ∀ d e, IsReal (W d e))
    (i : Fin 256) (e : Fin 64) :
    out (fun s => γ s.val) (fun s => q s.val) (fun s => k s.val) (fun s => v s.val) W i e = read γ q k v W i.val e := by
  obtain ⟨dt, hdt⟩ := DT_real
  obtain ⟨eta, heta⟩ := ETA_real
  choose g hg using hγ
  choose q' hq using hq
  choose k' hk using hk
  choose v' hv using hv
  choose w hw using hW
  obtain rfl : γ = fun n => (g n : EReal) := funext hg
  obtain rfl : q = fun n d => (q' n d : EReal) := funext fun n => funext (hq n)
  obtain rfl : k = fun n d => (k' n d : EReal) := funext fun n => funext (hk n)
  obtain rfl : v = fun n d => (v' n d : EReal) := funext fun n => funext (hv n)
  obtain rfl : W = fun d e => (w d e : EReal) := funext fun n => funext (hw n)
  rw [out_coe hdt heta]
  unfold read
  simp only [mem_coe hdt heta, ← EReal.coe_mul, coe_sum]

/-- The memory of finite steps stays finite. -/
theorem mem_real (γ : ℕ → EReal) (k v : ℕ → Fin 64 → EReal) (W : Fin 64 → Fin 64 → EReal) (hγ : ∀ n, IsReal (γ n))
    (hk : ∀ n d, IsReal (k n d)) (hv : ∀ n d, IsReal (v n d)) (hW : ∀ d e, IsReal (W d e)) (n : ℕ) (d e : Fin 64) :
    IsReal (mem γ k v W n d e) := by
  obtain ⟨dt, hdt⟩ := DT_real
  obtain ⟨eta, heta⟩ := ETA_real
  choose g hg using hγ
  choose k' hk using hk
  choose v' hv using hv
  choose w hw using hW
  obtain rfl : γ = fun n => (g n : EReal) := funext hg
  obtain rfl : k = fun n d => (k' n d : EReal) := funext fun n => funext (hk n)
  obtain rfl : v = fun n d => (v' n d : EReal) := funext fun n => funext (hv n)
  obtain rfl : W = fun d e => (w d e : EReal) := funext fun n => funext (hw n)
  exact ⟨_, mem_coe hdt heta g k' v' w n d e⟩

end Cert.Hebb

end
-- ==== Proof.MemRows.lean ====
module

public import proofs.«01_k».proof.Proof.Rows
public import proofs.«01_k».proof.Proof.ChunkIdeal

/-! The memory call as functions of its arguments' entries: the row that enters, its queries, keys and values, the recurrence, the result. -/

@[expose] public section

noncomputable section

open Idealize.ShloMosaic

namespace Cert.Hebb

/-- The real part of the resolvent's denominator, of a row of scalars. -/
def er (s : Fin 8 → EReal) : EReal := s 0 + s 2 - (s 4 + Ideal.ofBits .f32 0x40000000#32)

/-- The imaginary part of the resolvent's denominator. -/
def ei (s : Fin 8 → EReal) : EReal := s 1 + s 3 + s 5

/-- The squared modulus of the resolvent's denominator. -/
def m2 (s : Fin 8 → EReal) : EReal := er s * er s + ei s * ei s

/-- The row that enters the memory: the row `x`, the resolvent's two features by their weights, the bias. -/
def inp (x : Fin 1024 → EReal) (s : Fin 8 → EReal) (w : Fin 2 → Fin 1024 → EReal) (b : Fin 1024 → EReal) (d : Fin 1024) : EReal :=
  x d + Ideal.div (er s) (m2 s) * w 0 d + Ideal.div (-ei s) (m2 s) * w 1 d + b d

/-- Column `c` of a row's queries, keys and values: the product of the normalized row, and the bias. -/
def qkv (y g b : Fin 1024 → EReal) (w : Fin 1024 → Fin 1536 → EReal) (wb : Fin 1536 → EReal) (c : Fin 1536) : EReal :=
  (∑ k, Rows.ln y g b k * w k c) + wb c

/-- The arguments of the memory call, entry by entry. -/
structure Args where
  x : Fin 4 → Fin 2048 → Fin 1024 → EReal
  s : Fin 4 → Fin 2048 → Fin 8 → EReal
  g : Fin 1024 → EReal
  b : Fin 1024 → EReal
  w : Fin 2 → Fin 1024 → EReal
  wb : Fin 1024 → EReal
  wq : Fin 1024 → Fin 1536 → EReal
  bq : Fin 1536 → EReal
  wo : Fin 512 → Fin 1024 → EReal
  bo : Fin 1024 → EReal

/-- Row `n` of batch `a` as it enters the memory. -/
def Args.inp (A : Args) (a : Fin 4) (n : Fin 2048) : Fin 1024 → EReal := Hebb.inp (A.x a n) (A.s a n) A.w A.wb

/-- Column `c` of the queries, keys and values of row `n` of batch `a`. -/
def Args.qkv (A : Args) (a : Fin 4) (n : Fin 2048) (c : Fin 1536) : EReal := Hebb.qkv (A.inp a n) A.g A.b A.wq A.bq c

/-- A step as a row. -/
def row (n : ℕ) : Fin 2048 := ⟨n % 2048, Nat.mod_lt _ (by decide)⟩

/-- A row, as a step, is itself. -/
theorem row_val (n : Fin 2048) : row n.val = n := Fin.ext (Nat.mod_eq_of_lt n.isLt)

/-- The decay at each step of batch `a`. -/
def Args.gam (A : Args) (a : Fin 4) (n : ℕ) : EReal := A.s a (row n) 5

/-- The queries (`p = 0`), keys (1) or values (2) of head `h` at each step of batch `a`. -/
def Args.part (A : Args) (p : Fin 3) (a : Fin 4) (h : Fin 8) (n : ℕ) (d : Fin 64) : EReal :=
  A.qkv a (row n) ⟨512 * p.val + 64 * h.val + d.val, by omega⟩

/-- The memory of head `h` of batch `a` after `n` steps from an empty one. -/
def Args.mem (A : Args) (a : Fin 4) (h : Fin 8) : ℕ → Fin 64 → Fin 64 → EReal :=
  Hebb.mem (A.gam a) (A.part 1 a h) (A.part 2 a h) (fun _ _ => 0)

/-- What head `h` of batch `a` reads at step `n`. -/
def Args.read (A : Args) (a : Fin 4) (h : Fin 8) (n : ℕ) (e : Fin 64) : EReal := ∑ d, A.part 0 a h n d * A.mem a h (n + 1) d e

/-- The result: the row that entered, and the product of what the heads read with its bias. -/
def Args.result (A : Args) (a : Fin 4) (n : Fin 2048) (d : Fin 1024) : EReal :=
  A.inp a n d + ((∑ f : Fin 512, A.read a ⟨f.val / 64, by omega⟩ n.val ⟨f.val % 64, by omega⟩ * A.wo f d) + A.bo d)

/-- What the recurrence runs on is finite: the decays, the queries, the keys and the values. -/
structure Args.Finite (A : Args) : Prop where
  gam : ∀ a n, IsReal (A.gam a n)
  part : ∀ p a h n d, IsReal (A.part p a h n d)

/-- The memory of finite steps is finite. -/
theorem Args.Finite.mem {A : Args} (hA : A.Finite) (a : Fin 4) (h : Fin 8) (n : ℕ) (d e : Fin 64) : IsReal (A.mem a h n d e) :=
  mem_real _ _ _ _ (hA.gam a) (hA.part 1 a h) (hA.part 2 a h) (fun _ _ => ⟨0, rfl⟩) n d e

/-- The chunk of steps from `256 j` leaves the memory of its last step. -/
theorem Args.Finite.carry {A : Args} (hA : A.Finite) (a : Fin 4) (h : Fin 8) (j : ℕ) (d e : Fin 64) :
    Hebb.carry (fun s => A.gam a (256 * j + s.val)) (fun s => A.part 1 a h (256 * j + s.val)) (fun s => A.part 2 a h (256 * j + s.val))
      (A.mem a h (256 * j)) d e = A.mem a h (256 * (j + 1)) d e := by
  refine (carry_eq (fun s => A.gam a (256 * j + s)) (fun s => A.part 1 a h (256 * j + s)) (fun s => A.part 2 a h (256 * j + s)) _
    (fun _ => hA.gam _ _) (fun _ => hA.part _ _ _ _) (fun _ => hA.part _ _ _ _) (hA.mem a h _) d e).trans ?_
  exact congrFun (congrFun (mem_add (A.gam a) (A.part 1 a h) (A.part 2 a h) (fun _ _ => 0) (256 * j) 256) d) e

/-- Step `i` of the chunk of steps from `256 j` reads what its step reads. -/
theorem Args.Finite.out {A : Args} (hA : A.Finite) (a : Fin 4) (h : Fin 8) (j : ℕ) (i : Fin 256) (e : Fin 64) :
    Hebb.out (fun s => A.gam a (256 * j + s.val)) (fun s => A.part 0 a h (256 * j + s.val)) (fun s => A.part 1 a h (256 * j + s.val))
      (fun s => A.part 2 a h (256 * j + s.val)) (A.mem a h (256 * j)) i e = A.read a h (256 * j + i.val) e := by
  refine (out_eq (fun s => A.gam a (256 * j + s)) (fun s => A.part 0 a h (256 * j + s)) (fun s => A.part 1 a h (256 * j + s))
    (fun s => A.part 2 a h (256 * j + s)) _ (fun _ => hA.gam _ _) (fun _ => hA.part _ _ _ _) (fun _ => hA.part _ _ _ _)
    (fun _ => hA.part _ _ _ _) (hA.mem a h _) i e).trans ?_
  refine Finset.sum_congr rfl fun d _ => congrArg _ ?_
  exact congrFun (congrFun (mem_add (A.gam a) (A.part 1 a h) (A.part 2 a h) (fun _ _ => 0) (256 * j) (i.val + 1)) d) e

end Cert.Hebb

end
-- ==== Proof.MemArray.lean ====
module

public import proofs.«01_k».proof.Proof.Gen.MemKernelIdeal.Value
public import Idealize.ShloMosaic.Lib.Pipeline.ValueKit
public import proofs.«01_k».proof.Proof.Layout
public import proofs.«01_k».proof.Proof.MemBlock
public import proofs.«01_k».proof.Proof.MemRows

/-! The blocks of the memory call's arguments, and what a block's rows are as functions of the arguments' entries. -/

@[expose] public section

set_option maxRecDepth 16384

noncomputable section

open Idealize.ShloMosaic Idealize.ShloMosaic.TcCoe Idealize.SL.Sem
open Idealize.ShloMosaic.Pipeline (Dat)

namespace Cert.MemKernelIdeal.Mem

open Cert.MemKernelIdeal Cert.MemKernelIdeal.Gen Cert.Hebb Cert.Layout

section
variable (x0 : Vec Ideal S2x256x1024 .f32) (x1 : Vec Ideal S2x256x8 .f32) (x2 : Vec Ideal S2x1024 .f32) (x3 x4 x5 : Vec Ideal S1x1024 .f32)
  (x6 : Vec Ideal S1024x1536 .f32) (x7 : Vec Ideal S1x1536 .f32) (x8 : Vec Ideal S512x1024 .f32) (x9 : Vec Ideal S1x1024 .f32)

/-- A block's entering rows. -/
theorem inputArr_at (r : Fin 2) (i : Fin 256) (d : Fin 1024) : inputArr x0 x1 x2 x3 (ix3 r i d) =
    inp (fun d => x0 (ix3 r i d)) (fun k => x1 (ix3 r i k)) (fun a d => x2 (ix2 a d)) (fun d => x3 (ix2 0 d)) d := by
  pointwise [inputArr, k0_pay10, k0_pay9, k0_pay8, k0_pay7, k0_pay6, k0_pay5]
  rw [zero_sub]
  rfl

/-- A block's queries, keys and values. -/
theorem qkvArr_at (r : Fin 2) (i : Fin 256) (c : Fin 1536) : qkvArr x0 x1 x2 x3 x4 x5 x6 x7 (ix3 r i c) =
    qkv (fun d => inputArr x0 x1 x2 x3 (ix3 r i d)) (fun k => x4 (ix2 0 k)) (fun k => x5 (ix2 0 k)) (fun k c => x6 (ix2 k c))
      (fun c => x7 (ix2 0 c)) c := by
  unfold inputArr qkvArr
  generalize k0_pay8 x0 x1 (View.ld x2 (Rect.unit ![0, 0] ![1, 1024] inb_S2x1024_S1x1024_0_0)) = p
  generalize k0_pay9 x1 (View.ld x2 (Rect.unit ![1, 0] ![1, 1024] inb_S2x1024_S1x1024_1_0)) = q
  pointwise [k0_pay11, k0_pay10]
  rfl

/-- A block's stored rows: the entering row, the product of the heads' reads, the bias. -/
theorem stored_at (X : FVec Ideal S2x256x1024 .f32) (Y : FVec Ideal S2x256x512 .f32) (r : Fin 2) (i : Fin 256) (d : Fin 1024) :
    k0_pay3 (F := Ideal) X Y x8 x9 (ix3 r i d) = X (ix3 r i d) + ((∑ f, Y (ix3 r i f) * x8 (ix2 f d)) + x9 (ix2 0 d)) := by
  pointwise [k0_pay3]

end

variable (m : (ℓ : Loc nD τ sig) → Buf (Elt Ideal) ℓ)

/-- An argument a run starts from. -/
abbrev arg (c : Dev nD) (r : Ref sig .tc) : Buf (Elt Ideal) ((c : Thread nD τ).loc r) := m ((c : Thread nD τ).loc r)

/-- The entries of the arguments a run starts from. -/
def argsAt (c : Dev nD) : Args where
  x a n d := arg m c main_arg0 (ix3 a n d)
  s a n k := arg m c main_arg1 (ix3 a n k)
  g k := arg m c main_arg2 (ix1 k)
  b k := arg m c main_arg3 (ix1 k)
  w i d := arg m c main_arg4 (ix2 i d)
  wb d := arg m c main_arg5 (ix1 d)
  wq k c' := arg m c main_arg6 (ix2 k c')
  bq c' := arg m c main_arg7 (ix1 c')
  wo f d := arg m c main_arg8 (ix2 f d)
  bo d := arg m c main_arg9 (ix1 d)

/-- Where each window's block sits: the rows move with the grid point, everything else is its whole array. -/
theorem idx : ∀ t : Fin cfg0.N, win0_0.index t = ![t.val / 8, t.val % 8, 0] ∧ win0_1.index t = ![t.val / 8, t.val % 8, 0] ∧
    win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![0, 0] ∧ win0_9.index t = ![0, 0] ∧
    win0_10.index t = ![t.val / 8, t.val % 8, 0] :=
  (by decide +kernel : ∀ t : Fin grid0.N, _)

/-- The batch of a block's row `r`. -/
def batch (t : Fin cfg0.N) (r : Fin 2) : Fin 4 := ⟨2 * (t.val / 8) + r.val, by have : t.val < 16 := t.isLt; omega⟩

/-- The place of a block's row `i` in its batch. -/
def place (t : Fin cfg0.N) (i : Fin 256) : Fin 2048 := ⟨256 * (t.val % 8) + i.val, by omega⟩

variable (c : Dev nD) (t : Fin cfg0.N)

/-- The rows' block. -/
theorem x_at (r : Fin 2) (i : Fin 256) (d : Fin 1024) : iblk m c 0 t (ix3 r i d) = (argsAt m c).x (batch t r) (place t i) d := by
  have e : iblk m c 0 t (ix3 r i d) = V m c main_arg0 (ix3 (batch t r) (place t i) d) := by blk_ext [iblk, idx t, batch, place]
  exact e

/-- The scalars' block. -/
theorem s_at (r : Fin 2) (i : Fin 256) (k : Fin 8) : iblk m c 1 t (ix3 r i k) = (argsAt m c).s (batch t r) (place t i) k := by
  have e : iblk m c 1 t (ix3 r i k) = V m c main_arg1 (ix3 (batch t r) (place t i) k) := by blk_ext [iblk, idx t, batch, place]
  exact e

/-- The features' weight's block is the weight. -/
theorem w_at : iblk m c 2 t = arg m c main_arg4 := by
  blk_ext! [iblk, V, idx t]

/-- The queries', keys' and values' weight's block is the weight. -/
theorem wq_at : iblk m c 6 t = arg m c main_arg6 := by
  blk_ext! [iblk, V, idx t]

/-- The reads' weight's block is the weight. -/
theorem wo_at : iblk m c 8 t = arg m c main_arg8 := by
  blk_ext! [iblk, V, idx t]

/-- The features' bias. -/
theorem wb_at (k : Fin 1024) : iblk m c 3 t (ix2 0 k) = (argsAt m c).wb k := by
  have e : iblk m c 3 t (ix2 0 k) = V m c main_v0 (ix2 0 k) := by blk_ext [iblk, idx t]
  have v : V m c main_v0 = shapeCast S1x1024 (arg m c main_arg5) shapeCasts_S1024_S1x1024 := by
    entry_read; rfl
  rw [e, v]
  exact vec_at _ k

/-- The scale. -/
theorem g_at (k : Fin 1024) : iblk m c 4 t (ix2 0 k) = (argsAt m c).g k := by
  have e : iblk m c 4 t (ix2 0 k) = V m c main_v1 (ix2 0 k) := by blk_ext [iblk, idx t]
  have v : V m c main_v1 = shapeCast S1x1024 (arg m c main_arg2) shapeCasts_S1024_S1x1024 := by
    entry_read; rfl
  rw [e, v]
  exact vec_at _ k

/-- The shift. -/
theorem b_at (k : Fin 1024) : iblk m c 5 t (ix2 0 k) = (argsAt m c).b k := by
  have e : iblk m c 5 t (ix2 0 k) = V m c main_v2 (ix2 0 k) := by blk_ext [iblk, idx t]
  have v : V m c main_v2 = shapeCast S1x1024 (arg m c main_arg3) shapeCasts_S1024_S1x1024 := by
    entry_read; rfl
  rw [e, v]
  exact vec_at _ k

/-- The bias of the queries, keys and values with a unit axis in front is the bias. -/
theorem bias_at (x : FVec Ideal S1536 .f32) (k : Fin 1536) :
    shapeCast S1x1536 x shapeCasts_S1536_S1x1536 (ix2 0 k) = x (ix1 k) := by
  pointwise []

/-- The queries', keys' and values' bias. -/
theorem bq_at (k : Fin 1536) : iblk m c 7 t (ix2 0 k) = (argsAt m c).bq k := by
  have e : iblk m c 7 t (ix2 0 k) = V m c main_v3 (ix2 0 k) := by blk_ext [iblk, idx t]
  have v : V m c main_v3 = shapeCast S1x1536 (arg m c main_arg7) shapeCasts_S1536_S1x1536 := by
    entry_read; rfl
  rw [e, v]
  exact bias_at _ k

/-- The reads' bias. -/
theorem bo_at (k : Fin 1024) : iblk m c 9 t (ix2 0 k) = (argsAt m c).bo k := by
  have e : iblk m c 9 t (ix2 0 k) = V m c main_v4 (ix2 0 k) := by blk_ext [iblk, idx t]
  have v : V m c main_v4 = shapeCast S1x1024 (arg m c main_arg9) shapeCasts_S1024_S1x1024 := by
    entry_read; rfl
  rw [e, v]
  exact vec_at _ k

/-- A block's queries, keys and values. -/
abbrev Q : FVec Ideal S2x256x1536 .f32 :=
  qkvArr (iblk m c 0 t) (iblk m c 1 t) (iblk m c 2 t) (iblk m c 3 t) (iblk m c 4 t) (iblk m c 5 t) (iblk m c 6 t) (iblk m c 7 t)

/-- A block's entering rows are the arguments' at the block's place. -/
theorem enter_at (r : Fin 2) (i : Fin 256) (d : Fin 1024) :
    inputArr (iblk m c 0 t) (iblk m c 1 t) (iblk m c 2 t) (iblk m c 3 t) (ix3 r i d) = (argsAt m c).inp (batch t r) (place t i) d := by
  refine (inputArr_at _ _ _ _ r i d).trans ?_
  rw [funext (x_at m c t r i), funext (s_at m c t r i), w_at m c t, funext (wb_at m c t)]
  rfl

/-- A block's queries, keys and values are the arguments' at the block's place. -/
theorem Q_at (r : Fin 2) (i : Fin 256) (k : Fin 1536) : Q m c t (ix3 r i k) = (argsAt m c).qkv (batch t r) (place t i) k := by
  refine (qkvArr_at _ _ _ _ _ _ _ _ r i k).trans ?_
  rw [funext (enter_at m c t r i), funext (g_at m c t), funext (b_at m c t), wq_at m c t, funext (bq_at m c t)]
  rfl

/-- A block's row is a step of the recurrence. -/
theorem step_row (i : Fin 256) : row (256 * (t.val % 8) + i.val) = place t i := row_val (place t i)

/-- A block's decays. -/
theorem gam_at (r : Fin 2) : gam (iblk m c 1 t) r = fun i => (argsAt m c).gam (batch t r) (256 * (t.val % 8) + i.val) := by
  funext i
  unfold Args.gam
  rw [step_row]
  exact s_at m c t r i 5

/-- A block's queries, keys or values of a head. -/
theorem part_at (r : Fin 2) (p : Fin 3) (h : Fin 8) :
    part (Q m c t) r p h = fun i => (argsAt m c).part p (batch t r) h (256 * (t.val % 8) + i.val) := by
  funext i d
  unfold Args.part
  rw [step_row]
  exact Q_at m c t r i _

variable (hA : (argsAt m c).Finite)

include hA in
/-- A block takes the memory of its first step to that of the step after its last. -/
theorem carry_at (W : FVec Ideal S16x64x64 .f32)
    (hW : ∀ (n : Fin 16) (d e : Fin 64), W (ix3 n d e) =
      (argsAt m c).mem (batch t ⟨n.val / 8, by omega⟩) ⟨n.val % 8, by omega⟩ (256 * (t.val % 8)) d e)
    (n : Fin 16) (d e : Fin 64) : carryArr (iblk m c 1 t) (Q m c t) W (ix3 n d e) =
      (argsAt m c).mem (batch t ⟨n.val / 8, by omega⟩) ⟨n.val % 8, by omega⟩ (256 * (t.val % 8 + 1)) d e := by
  rw [← hA.carry]
  show carry (gam (iblk m c 1 t) ⟨n.val / 8, _⟩) (part (Q m c t) ⟨n.val / 8, _⟩ 1 ⟨n.val % 8, _⟩) (part (Q m c t) ⟨n.val / 8, _⟩ 2 ⟨n.val % 8, _⟩)
    (fun d e => W (ix3 n d e)) d e = _
  rw [gam_at, part_at, part_at, funext fun d => funext fun e => hW n d e]

include hA in
/-- A block's heads read what their steps read. -/
theorem heads_at (W : FVec Ideal S16x64x64 .f32)
    (hW : ∀ (n : Fin 16) (d e : Fin 64), W (ix3 n d e) =
      (argsAt m c).mem (batch t ⟨n.val / 8, by omega⟩) ⟨n.val % 8, by omega⟩ (256 * (t.val % 8)) d e)
    (r : Fin 2) (i : Fin 256) (f : Fin 512) : headsArr (iblk m c 1 t) (Q m c t) W (ix3 r i f) =
      (argsAt m c).read (batch t r) ⟨f.val / 64, by omega⟩ (place t i).val ⟨f.val % 64, by omega⟩ := by
  have hr : (⟨(8 * r.val + f.val / 64) / 8, by omega⟩ : Fin 2) = r := Fin.ext (by show (8 * r.val + f.val / 64) / 8 = r.val; omega)
  have hh : (⟨(8 * r.val + f.val / 64) % 8, by omega⟩ : Fin 8) = ⟨f.val / 64, by omega⟩ :=
    Fin.ext (by show (8 * r.val + f.val / 64) % 8 = f.val / 64; omega)
  refine Eq.trans ?_ (hA.out (batch t r) ⟨f.val / 64, by omega⟩ (t.val % 8) i ⟨f.val % 64, by omega⟩)
  show out (gam (iblk m c 1 t) r) (part (Q m c t) r 0 ⟨f.val / 64, _⟩) (part (Q m c t) r 1 ⟨f.val / 64, _⟩) (part (Q m c t) r 2 ⟨f.val / 64, _⟩)
    (fun d e => W (ix3 ⟨8 * r.val + f.val / 64, _⟩ d e)) i ⟨f.val % 64, _⟩ = _
  rw [gam_at, part_at, part_at, part_at, funext fun d => funext fun e => hW ⟨8 * r.val + f.val / 64, by omega⟩ d e]
  simp only [hr, hh]

include hA in
/-- A block's stored rows are the result's. -/
theorem stored (W : FVec Ideal S16x64x64 .f32)
    (hW : ∀ (n : Fin 16) (d e : Fin 64), W (ix3 n d e) =
      (argsAt m c).mem (batch t ⟨n.val / 8, by omega⟩) ⟨n.val % 8, by omega⟩ (256 * (t.val % 8)) d e)
    (r : Fin 2) (i : Fin 256) (d : Fin 1024) :
    k0_pay3 (F := Ideal) (inputArr (iblk m c 0 t) (iblk m c 1 t) (iblk m c 2 t) (iblk m c 3 t))
      (headsArr (iblk m c 1 t) (Q m c t) W) (iblk m c 8 t) (iblk m c 9 t) (ix3 r i d) =
      (argsAt m c).result (batch t r) (place t i) d := by
  refine (stored_at _ _ _ _ r i d).trans ?_
  rw [enter_at, wo_at m c t, bo_at m c t]
  unfold Args.result
  refine congrArg₂ (· + ·) rfl (congrArg₂ (· + ·) (Finset.sum_congr rfl fun f _ => ?_) rfl)
  exact congrArg (fun z => z * arg m c main_arg8 (ix2 f d)) (heads_at m c t hA W hW r i f)

end Cert.MemKernelIdeal.Mem

end
-- ==== Proof.MemResult.lean ====
module

public import proofs.«01_k».proof.Proof.MemArray

/-! The memory carried from one grid point to the next, the blocks stored, and the array the memory call leaves. -/

@[expose] public section

set_option maxRecDepth 16384

noncomputable section

open Idealize.ShloMosaic Idealize.ShloMosaic.TcCoe Idealize.SL.Sem
open Idealize.ShloMosaic.Pipeline (Dat)

namespace Cert.MemKernelIdeal.Mem

open Cert.MemKernelIdeal Cert.MemKernelIdeal.Gen Cert.Hebb Cert.Layout

variable (m : (ℓ : Loc nD τ sig) → Buf (Elt Ideal) ℓ) (c : Dev nD)

/-- The memory at the start of a batch pair is empty. -/
theorem empty_at (t : Fin cfg0.N) (h0 : t.val % 8 = 0) (n : Fin 16) (d e : Fin 64) : (fun _ => 0 : FVec Ideal S16x64x64 .f32) (ix3 n d e) =
    (argsAt m c).mem (batch t ⟨n.val / 8, by omega⟩) ⟨n.val % 8, by omega⟩ (256 * (t.val % 8)) d e := by
  rw [h0]
  rfl

/-- What a point stores and carries on, as functions of the memory it starts from. -/
def stores (t : Fin cfg0.N) (W : FVec Ideal S16x64x64 .f32) : FVec Ideal S2x256x1024 .f32 × FVec Ideal S16x64x64 .f32 :=
  (k0_pay3 (F := Ideal) (inputArr (iblk m c 0 t) (iblk m c 1 t) (iblk m c 2 t) (iblk m c 3 t))
    (headsArr (iblk m c 1 t) (Q m c t) W) (iblk m c 8 t) (iblk m c 9 t), carryArr (iblk m c 1 t) (Q m c t) W)

/-- The first point of a batch pair starts from an empty memory. -/
theorem point_first (t : Fin cfg0.N) (h0 : t.val % 8 = 0) : outsAt0 m c t.val t.isLt = stores m c t (fun _ => 0) := by
  rw [outsAt0_A m c t h0, out_first, carry_first]
  rfl

/-- Every other point starts from the memory the point before it left. -/
theorem point_next (t : Fin cfg0.N) (h0 : ¬ t.val % 8 = 0) :
    outsAt0 m c t.val t.isLt = stores m c t (outsAt0 m c (t.val - 1) (by have := t.isLt; omega)).2 := by
  rw [outsAt0_B m c t h0, out_next, carry_next]
  rfl

/-- What the carried memory is after point `n`: every head's after the last step of the point's chunk. -/
theorem scratch_at (hA : (argsAt m c).Finite) (n : ℕ) : ∀ (hn : n < cfg0.N) (s : Fin 16) (d e : Fin 64),
    (outsAt0 m c n hn).2 (ix3 s d e) =
      (argsAt m c).mem (batch ⟨n, hn⟩ ⟨s.val / 8, by omega⟩) ⟨s.val % 8, by omega⟩ (256 * (n % 8 + 1)) d e := by
  induction n with
  | zero =>
    intro hn s d e
    rw [point_first m c ⟨0, hn⟩ rfl]
    exact carry_at m c ⟨0, hn⟩ hA (fun _ => 0) (empty_at m c ⟨0, hn⟩ rfl) s d e
  | succ n ih =>
    intro hn s d e
    by_cases h0 : (n + 1) % 8 = 0
    · rw [point_first m c ⟨n + 1, hn⟩ h0]
      exact carry_at m c ⟨n + 1, hn⟩ hA (fun _ => 0) (empty_at m c ⟨n + 1, hn⟩ h0) s d e
    · rw [point_next m c ⟨n + 1, hn⟩ h0]
      refine carry_at m c ⟨n + 1, hn⟩ hA _ (fun s d e => (ih (by omega) s d e).trans ?_) s d e
      have hb : batch ⟨n, by omega⟩ ⟨s.val / 8, by omega⟩ = batch ⟨n + 1, hn⟩ ⟨s.val / 8, by omega⟩ :=
        Fin.ext (by show 2 * (n / 8) + s.val / 8 = 2 * ((n + 1) / 8) + s.val / 8; omega)
      have hm : n % 8 + 1 = (n + 1) % 8 := by omega
      rw [hb]
      exact congrArg (fun k => (argsAt m c).mem _ _ (256 * k) d e) hm

/-- The block stored at point `t` is the result's rows at the point's place. -/
theorem block_at (hA : (argsAt m c).Finite) (t : Fin cfg0.N) (r : Fin 2) (i : Fin 256) (d : Fin 1024) :
    (outsAt0 m c t.val t.isLt).1 (ix3 r i d) = (argsAt m c).result (batch t r) (place t i) d := by
  by_cases h0 : t.val % 8 = 0
  · rw [point_first m c t h0]
    exact stored m c t hA (fun _ => 0) (empty_at m c t h0) r i d
  · rw [point_next m c t h0]
    refine stored m c t hA _ (fun s d e => (scratch_at m c hA _ _ s d e).trans ?_) r i d
    have hb : batch ⟨t.val - 1, by omega⟩ ⟨s.val / 8, by omega⟩ = batch t ⟨s.val / 8, by omega⟩ :=
      Fin.ext (by show 2 * ((t.val - 1) / 8) + s.val / 8 = 2 * (t.val / 8) + s.val / 8; omega)
    rw [hb]
    have hm : (t.val - 1) % 8 + 1 = t.val % 8 := by omega
    exact congrArg (fun k => (argsAt m c).mem _ _ (256 * k) d e) hm

/-- Row `i` of batch row `r` of the block written at point `t` is row `place t i` of batch `batch t r` of the result. -/
theorem out_place (t : Fin cfg0.N) (r : Fin 2) (i : Fin 256) (d : Fin 1024) :
    (((cfg0.win 10).blk t).view.emb (ix3 r i d : S2x256x1024.Idx)) = (ix3 (batch t r) (place t i) d : S4x2048x1024.Idx) := by
  blk_ext [idx t, batch, place]

/-- The result array after the run. -/
theorem final (hA : (argsAt m c).Finite) : (dats m 0 c).arrAt 10 cfg0.N =
    (fun j => (argsAt m c).result (j 0) (j 1) (j 2) : FVec Ideal S4x2048x1024 .f32) := by
  refine (dats m 0 c).arrAt_eq_of_covers 10 _ (by decide +kernel) fun t _ y => ?_
  blk_simp
  rw [after0_10]
  idx_vars y
  exact (block_at m c hA t y0 y1 y2).trans
    (congrArg (fun j => (argsAt m c).result (j 0) (j 1) (j 2) : FVec Ideal S4x2048x1024 .f32) (out_place t y0 y1 y2).symm)

end Cert.MemKernelIdeal.Mem

end
-- ==== Proof.MemReal.lean ====
module

public import proofs.«01_k».proof.Proof.MemRows

/-! The memory call's recurrence runs on finite numbers when its decays and the parameters of its queries, keys and values are finite. -/

@[expose] public section

noncomputable section

open Idealize.ShloMosaic

namespace Cert.Hebb

/-- A number whose absolute value is below infinity is finite. -/
theorem isReal_of_abs {a : EReal} (h : max a (-a) < ⊤) : IsReal a := by
  induction a using EReal.rec with
  | bot => simp at h
  | coe r => exact ⟨r, rfl⟩
  | top => simp at h

/-- A sum of two finite numbers is finite. -/
theorem IsReal.add {a b : EReal} : IsReal a → IsReal b → IsReal (a + b) := by
  rintro ⟨r, rfl⟩ ⟨s, rfl⟩; exact ⟨r + s, (EReal.coe_add r s).symm⟩

/-- A difference of two finite numbers is finite. -/
theorem IsReal.sub {a b : EReal} : IsReal a → IsReal b → IsReal (a - b) := by
  rintro ⟨r, rfl⟩ ⟨s, rfl⟩; exact ⟨r - s, (EReal.coe_sub r s).symm⟩

/-- A product of two finite numbers is finite. -/
theorem IsReal.mul {a b : EReal} : IsReal a → IsReal b → IsReal (a * b) := by
  rintro ⟨r, rfl⟩ ⟨s, rfl⟩; exact ⟨r * s, (EReal.coe_mul r s).symm⟩

/-- A finite sum of finite numbers is finite. -/
theorem IsReal.sum {ι : Type} [Fintype ι] {f : ι → EReal} (h : ∀ i, IsReal (f i)) : IsReal (∑ i, f i) := by
  choose g hg using h
  exact ⟨∑ i, g i, by rw [funext hg]; exact coe_sum g⟩

/-- A quotient of finite numbers is finite when the divisor is not zero. -/
theorem IsReal.div {a b : EReal} (ha : IsReal a) (hb : IsReal b) (h : b ≠ 0) : IsReal (Ideal.div a b) := by
  obtain ⟨s, rfl⟩ := hb
  rw [Ideal.div_coe (by exact_mod_cast h)]
  exact ha.mul ⟨_, rfl⟩

/-- A sum of finite numbers over a row's length is finite. -/
theorem IsReal.mean {a : EReal} (ha : IsReal a) : IsReal (Ideal.div a (Ideal.ofBits .f32 0x44800000#32)) :=
  ha.div ⟨1024, Rows.ofBits_1024⟩ Rows.guard.ne'

/-- The variance of a finite row is a nonnegative real. -/
theorem var_real {x : Fin 1024 → EReal} (hx : ∀ k, IsReal (x k)) : ∃ r : ℝ, 0 ≤ r ∧ Rows.var x = (r : EReal) := by
  have hd : ∀ k, IsReal (x k - Rows.mean x) := fun k => (hx k).sub (IsReal.sum hx).mean
  choose g hg using hd
  refine ⟨(∑ k, g k * g k) * (1 / 1024), mul_nonneg (Finset.sum_nonneg fun k _ => mul_self_nonneg _) (by norm_num), ?_⟩
  unfold Rows.var
  rw [Rows.ofBits_1024, Ideal.div_coe (by norm_num)]
  simp only [hg, ← EReal.coe_mul]
  rw [coe_sum, ← EReal.coe_mul]

/-- The constant under the root is a positive real. -/
theorem eps_pos : ∃ r : ℝ, 0 < r ∧ Ideal.ofBits .f32 0x3727C5AC#32 = (r : EReal) := by
  refine ⟨_, ?_, by simp [Ideal.ofBits, Ideal.ieee, -EReal.coe_mul]; rfl⟩
  positivity

/-- An infinite number, less any number, has an infinite square. -/
theorem square_top {a : EReal} (ha : ¬ IsReal a) (b : EReal) : (a - b) * (a - b) = ⊤ := by
  have h : a - b = ⊤ ∨ a - b = ⊥ := by
    induction a using EReal.rec with
    | bot => exact Or.inr (by rw [sub_eq_add_neg, EReal.bot_add])
    | coe r => exact absurd ⟨r, rfl⟩ ha
    | top =>
      induction b using EReal.rec with
      | bot => exact Or.inl (by simp)
      | coe r => exact Or.inl (by simp)
      | top => exact Or.inr (by simp)
  rcases h with h | h <;> rw [h] <;> rfl

/-- A square is not negative. -/
theorem square_nonneg (a : EReal) : 0 ≤ a * a := by
  induction a using EReal.rec with
  | bot => simp
  | coe r => rw [← EReal.coe_mul]; exact EReal.coe_nonneg.2 (mul_self_nonneg r)
  | top => simp

/-- A row with an infinite entry has an infinite variance. -/
theorem var_top {x : Fin 1024 → EReal} {k : Fin 1024} (hk : ¬ IsReal (x k)) : Rows.var x = ⊤ := by
  have h : (∑ k, (x k - Rows.mean x) * (x k - Rows.mean x)) = ⊤ := top_le_iff.1 <|
    (square_top hk (Rows.mean x)).ge.trans
      (Finset.single_le_sum (f := fun k => (x k - Rows.mean x) * (x k - Rows.mean x)) (fun i _ => square_nonneg _) (Finset.mem_univ k))
  unfold Rows.var
  rw [h, Rows.ofBits_1024, Ideal.div_coe (by norm_num), EReal.top_mul_coe_of_pos (by norm_num)]

/-- The layer norm of any row with finite scale and shift is finite: of a row with an infinite entry it is the shift. -/
theorem ln_real {x g b : Fin 1024 → EReal} (hg : ∀ k, IsReal (g k)) (hb : ∀ k, IsReal (b k)) (k : Fin 1024) :
    IsReal (Rows.ln x g b k) := by
  obtain ⟨p, hp, ep⟩ := eps_pos
  by_cases hx : ∀ k, IsReal (x k)
  · obtain ⟨v, hv, ev⟩ := var_real hx
    have hr : IsReal (Ideal.rsqrt (Rows.var x + Ideal.ofBits .f32 0x3727C5AC#32)) := by
      rw [ev, ep, ← EReal.coe_add, Ideal.rsqrt_coe, if_neg (by linarith), if_neg (by linarith : v + p ≠ 0)]
      exact ⟨_, rfl⟩
    exact ((((hx k).sub (IsReal.sum hx).mean).mul hr).mul (hg k)).add (hb k)
  · obtain ⟨j, hj⟩ := not_forall.1 hx
    unfold Rows.ln
    rw [var_top hj, ep, EReal.top_add_coe, Ideal.rsqrt_top, mul_zero, zero_mul, zero_add]
    exact hb k

/-- Of the arguments: the decays, and the parameters the queries, keys and values are made with, are finite. -/
structure Args.Entries (A : Args) : Prop where
  s : ∀ a n, IsReal (A.s a n 5)
  g : ∀ k, IsReal (A.g k)
  b : ∀ k, IsReal (A.b k)
  wq : ∀ k c, IsReal (A.wq k c)
  bq : ∀ c, IsReal (A.bq c)

/-- The recurrence runs on finite numbers. -/
theorem Args.Entries.finite {A : Args} (h : A.Entries) : A.Finite where
  gam a n := h.s a (row n)
  part p a hd n d := (IsReal.sum fun k => (ln_real h.g h.b k).mul (h.wq k _)).add (h.bq _)

end Cert.Hebb

end
-- ==== Proof.MemFinite.lean ====
module

public import proofs.«01_k».proof.Defs
public import Idealize.ShloMosaic.Lib.Pointwise
public import proofs.«01_k».proof.Proof.MemReal
public import proofs.«01_k».proof.Proof.MemArray

/-! The memory call's precondition, read: the decays and the parameters of the queries, keys and values are finite. -/

@[expose] public section

set_option maxRecDepth 16384

noncomputable section

open Idealize.ShloMosaic Idealize.ShloMosaic.TcCoe Idealize.SL.Sem

namespace Cert.MemKernelIdeal.Mem

open Cert.MemKernelIdeal Cert.MemKernelIdeal.Gen Cert.Hebb

/-- The float constant the absolute values are compared with is infinity. -/
theorem ofBits_inf : Ideal.ofBits .f32 0x7F800000#32 = ⊤ := by
  simp [Ideal.ofBits, Ideal.ieee]

/-- A lane of a mask of absolute values below infinity. -/
def lane (a : EReal) : BitVec 1 := Ideal.cmp .olt (max a (-a)) (Ideal.ofBits .f32 0x7F800000#32)

/-- The lane is set: the entry is finite. -/
theorem isReal_of_lane {a : EReal} (h : lane a = 1#1) : IsReal a := by
  rw [lane, ofBits_inf] at h
  refine isReal_of_abs ?_
  by_contra hn
  simp [Ideal.cmp, hn] at h

variable [Cert.Pre_mem_finite.Facts]

section
variable (x0 : FVec Ideal S4x2048x1024 .f32) (x1 : FVec Ideal S4x2048x8 .f32) (x2 x3 : FVec Ideal S1024 .f32) (x4 : FVec Ideal S2x1024 .f32)
  (x5 : FVec Ideal S1024 .f32) (x6 : FVec Ideal S1024x1536 .f32) (x7 : FVec Ideal S1536 .f32) (x8 : FVec Ideal S512x1024 .f32)
  (x9 : FVec Ideal S1024 .f32)

/-- The mask of the decays, lane by lane. -/
theorem mask_s (a : Fin 4) (n : Fin 2048) :
    (Cert.Pre_mem_finite.fn (F := Ideal) x0 x1 x2 x3 x4 x5 x6 x7 x8 x9).1 (ix2 a n) = lane (x1 (ix3 a n 5)) := by
  pointwise [Cert.Pre_mem_finite.fn]
  rfl

end

variable (m : (ℓ : Loc nD τ sig) → Buf (Elt Ideal) ℓ) (c : Dev nD)

/-- The precondition says that the entries are finite. -/
theorem entries (h : Cert.Pre_MemKernelIdeal_mem_finite m) : (argsAt m c).Entries := by
  obtain ⟨hs, hg, hb, hwq, hbq⟩ := h c
  refine ⟨fun a n => isReal_of_lane ?_, fun k => isReal_of_lane (congrFun hg (ix1 k)), fun k => isReal_of_lane (congrFun hb (ix1 k)),
    fun k c' => isReal_of_lane (congrFun hwq (ix2 k c')), fun c' => isReal_of_lane (congrFun hbq (ix1 c'))⟩
  exact (mask_s (arg m c main_arg0) (arg m c main_arg1) (arg m c main_arg2) (arg m c main_arg3) (arg m c main_arg4) (arg m c main_arg5)
    (arg m c main_arg6) (arg m c main_arg7) (arg m c main_arg8) (arg m c main_arg9) a n).symm.trans (congrFun hs _)

end Cert.MemKernelIdeal.Mem

end
-- ==== Proof.MemReference.lean ====
module

public import proofs.«01_k».proof.Proof.MemRows
public import proofs.«01_k».proof.Proof.Gen.MemReferenceIdeal.Step

/-! What the reference computes before its loop, entry by entry. -/

@[expose] public section

set_option maxRecDepth 16384

noncomputable section

open Idealize.ShloMosaic Idealize.ShloMosaic.TcCoe Idealize.SL.Sem

namespace Cert.MemReferenceIdeal.Mem

open Cert.MemReferenceIdeal Cert.MemReferenceIdeal.Gen Cert.MemReferenceIdeal.Step Cert.Hebb

variable (x : FVec Ideal S4x2048x1024 .f32) (sc : FVec Ideal S4x2048x8 .f32) (g b : FVec Ideal S1024 .f32) (w : FVec Ideal S2x1024 .f32) (wb : FVec Ideal S1024 .f32) (wq : FVec Ideal S1024x1536 .f32) (bq : FVec Ideal S1536 .f32)

/-- The squared modulus of the denominator, at a row. -/
theorem v20_at (a : Fin 4) (n : Fin 2048) :
    A_main_v20 (F := Ideal) x sc g b w wb wq bq (ix2 a n) = m2 (fun k => sc (ix3 a n k)) := by
  pointwise [A_main_v20, A_main_v19, A_main_v18, A_main_v17, A_main_v16, A_main_v15, A_main_v14, A_main_v12, A_main_v11, A_main_v10,
    A_main_v9, A_main_v8, A_main_v7, A_main_v6, A_main_v5, A_main_v4, A_main_v3, A_main_v2, A_main_v1, A_main_v0, K_main_v13, K_main_cst]
  rfl

/-- The row that enters the memory, as the reference computes it. -/
theorem input_at (a : Fin 4) (n : Fin 2048) (d : Fin 1024) :
    A_main_v31 (F := Ideal) x sc g b w wb wq bq (ix3 a n d) = inp (fun d => x (ix3 a n d)) (fun k => sc (ix3 a n k)) (fun c d => w (ix2 c d)) (fun d => wb (ix1 d)) d := by
  pointwise [A_main_v31, A_main_v30, A_main_v29, A_main_v28, A_main_v27, A_main_v26, A_main_v25, A_main_v24, A_main_v23, A_main_v22,
    A_main_v21, v20_at, A_main_v17, A_main_v16, A_main_v15, A_main_v14, A_main_v12, A_main_v11, A_main_v10, A_main_v9, A_main_v8,
    A_main_v7, A_main_v6, A_main_v5, A_main_v4, A_main_v3, A_main_v2, A_main_v1, A_main_v0, K_main_v13, K_main_cst]
  simp only [Fin.sum_univ_one, ← add_assoc]
  rfl

/-- A row's queries, keys and values, as the reference computes them. -/
theorem qkv_at (a : Fin 4) (n : Fin 2048) (c : Fin 1536) :
    A_main_v53 (F := Ideal) x sc g b w wb wq bq (ix3 a n c) =
      qkv (fun d => A_main_v31 (F := Ideal) x sc g b w wb wq bq (ix3 a n d)) (fun k => g (ix1 k)) (fun k => b (ix1 k))
        (fun k c => wq (ix2 k c)) (fun c => bq (ix1 c)) c := by
  pointwise [A_main_v53, A_main_v52, A_main_v51, A_main_v50, A_main_v49, A_main_v48, A_main_v47, A_main_v46, A_main_v45, A_main_v44,
    A_main_v43, A_main_v42, A_main_v41, A_main_v40, K_main_v39, K_main_cst_2, A_main_v38, A_main_v37, A_main_v36, A_main_v35, A_main_v33,
    A_main_v32, K_main_cst_0, K_main_v34, K_main_cst_1, K_main_call0_cst, K_main_call0_v2, K_main_call0_cst_0, K_main_call0_v7, K_main_c,
    K_main_call0_v8, K_main_call0_cst_1, K_main_call0_cst_2, K_main_call0_v11, K_main_call0_v13, K_main_call0_cst_3,
    K_main_call0_call0_v1, K_main_call0_call0_v0, K_main_call0_cst_4, A_main_call0_v12, A_main_call0_v10, A_main_call0_v9,
    A_main_call0_v6, A_main_call0_v5, A_main_call0_v4, A_main_call0_v3, A_main_call0_v1, A_main_call0_v0]
  simp only [Rows.sub_sitofp_zero, Rows.guard, if_true]
  rfl

/-- The queries, at step `n`, batch `a` and head `h`. -/
theorem q_at (a : Fin 4) (n : Fin 2048) (h : Fin 8) (d : Fin 64) :
    A_main_v63 (F := Ideal) x sc g b w wb wq bq (ix4 n a h d) =
      A_main_v53 (F := Ideal) x sc g b w wb wq bq (ix3 a n ⟨512 * (0 : Fin 3).val + 64 * h.val + d.val, by omega⟩) := by
  pointwise [A_main_v63, A_main_v56, A_main_v55, A_main_v54]
  exact congrArg (fun c => A_main_v53 (F := Ideal) x sc g b w wb wq bq (ix3 a n c)) (Fin.ext (by simp; omega))

/-- The keys, at step `n`, batch `a` and head `h`. -/
theorem k_at (a : Fin 4) (n : Fin 2048) (h : Fin 8) (d : Fin 64) :
    A_main_v64 (F := Ideal) x sc g b w wb wq bq (ix4 n a h d) =
      A_main_v53 (F := Ideal) x sc g b w wb wq bq (ix3 a n ⟨512 * (1 : Fin 3).val + 64 * h.val + d.val, by omega⟩) := by
  pointwise [A_main_v64, A_main_v58, A_main_v57, A_main_v54]
  exact congrArg (fun c => A_main_v53 (F := Ideal) x sc g b w wb wq bq (ix3 a n c)) (Fin.ext (by simp; omega))

/-- The values, at step `n`, batch `a` and head `h`. -/
theorem v_at (a : Fin 4) (n : Fin 2048) (h : Fin 8) (d : Fin 64) :
    A_main_v65 (F := Ideal) x sc g b w wb wq bq (ix4 n a h d) =
      A_main_v53 (F := Ideal) x sc g b w wb wq bq (ix3 a n ⟨512 * (2 : Fin 3).val + 64 * h.val + d.val, by omega⟩) := by
  pointwise [A_main_v65, A_main_v60, A_main_v59, A_main_v54]
  exact congrArg (fun c => A_main_v53 (F := Ideal) x sc g b w wb wq bq (ix3 a n c)) (Fin.ext (by simp; omega))

/-- The decay, at step `n` of batch `a`. -/
theorem gamma_at (a : Fin 4) (n : Fin 2048) :
    A_main_v66 (F := Ideal) x sc g b w wb wq bq (ix2 n a) = sc (ix3 a n 5) := by
  pointwise [A_main_v66, A_main_v62, A_main_v61]

end Cert.MemReferenceIdeal.Mem

end
-- ==== Proof.MemLoop.lean ====
module

public import Idealize.ShloMosaic.Lib.IdealHost
public import proofs.«01_k».proof.Proof.Gen.MemReferenceIdeal.Run
public import proofs.«01_k».proof.Proof.Gen.MemReferenceIdeal.Step

/-! The reference's loop as a sequence of states: the run's result is the last state's. -/

@[expose] public section

set_option maxRecDepth 16384

noncomputable section

open Idealize.ShloMosaic Idealize.ShloMosaic.TcCoe Idealize.SL.Sem Idealize.ShloMosaic.StableHlo

namespace Cert.MemReferenceIdeal.Mem

open Cert.MemReferenceIdeal Cert.MemReferenceIdeal.Gen Cert.MemReferenceIdeal.Step Cert.MemReferenceIdeal.Value

/-- What the carried buffers hold, as a state. -/
def stateOf (V : Valuation τ sig (Elt Ideal)) : State Ideal where
  main_v69_5 := V (Proc.devRef .tc main_v69_5)
  main_v69_6 := V (Proc.devRef .tc main_v69_6)
  main_v69_0 := V (Proc.devRef .tc main_v69_0)
  main_v69_1 := V (Proc.devRef .tc main_v69_1)
  main_v69_2 := V (Proc.devRef .tc main_v69_2)
  main_v69_3 := V (Proc.devRef .tc main_v69_3)

/-- Two states are equal when their fields are. -/
theorem state_ext (s t : State Ideal) (h5 : s.main_v69_5 = t.main_v69_5) (h6 : s.main_v69_6 = t.main_v69_6)
    (h0 : s.main_v69_0 = t.main_v69_0) (h1 : s.main_v69_1 = t.main_v69_1) (h2 : s.main_v69_2 = t.main_v69_2)
    (h3 : s.main_v69_3 = t.main_v69_3) : s = t := by
  cases s; cases t; simp only at *; subst_vars; rfl

/-- A trip's memory, at its number. -/
theorem next_memory (V : Valuation τ sig (Elt Ideal)) (j : ℕ)
    (h : V (Proc.devRef .tc main_v69_4) = constantI S_ 32 (BitVec.ofNat 32 j)) : Value.step_main_v69_5 V = b34 j (stateOf V) := by
  unfold Value.step_main_v69_5 res_main_while0b_v127
  rw [h]
  rfl

/-- A trip's reads, at its number. -/
theorem next_reads (V : Valuation τ sig (Elt Ideal)) (j : ℕ)
    (h : V (Proc.devRef .tc main_v69_4) = constantI S_ 32 (BitVec.ofNat 32 j)) : Value.step_main_v69_6 V = b40 j (stateOf V) := by
  unfold Value.step_main_v69_6 res_main_while0b_v127
  rw [h]
  rfl

/-- A trip counts on. -/
theorem next_count (V : Valuation τ sig (Elt Ideal)) (j : ℕ)
    (h : V (Proc.devRef .tc main_v69_4) = constantI S_ 32 (BitVec.ofNat 32 j)) :
    Value.step_main_v69_4 V = constantI S_ 32 (BitVec.ofNat 32 (j + 1)) := by
  unfold Value.step_main_v69_4
  rw [h]
  funext i
  show BitVec.ofNat 32 j + 1#32 = BitVec.ofNat 32 (j + 1)
  simp only [BitVec.ofNat_add]

/-- One trip takes the state to the next state. -/
theorem next_state (V : Valuation τ sig (Elt Ideal)) (j : ℕ)
    (h : V (Proc.devRef .tc main_v69_4) = constantI S_ 32 (BitVec.ofNat 32 j)) : stateOf (STEP V) = step j (stateOf V) :=
  state_ext _ _ ((STEP_main_v69_5 V).trans (next_memory V j h)) ((STEP_main_v69_6 V).trans (next_reads V j h)) (STEP_main_v69_0 V)
    (STEP_main_v69_1 V) (STEP_main_v69_2 V) (STEP_main_v69_3 V)

variable (m : (ℓ : Loc nD τ sig) → Buf (Elt Ideal) ℓ) (c : Dev nD)

/-- The states of the loop, from the arguments. -/
def states : ℕ → State Ideal
  | 0 => init (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))
  | n + 1 => step n (states n)

set_option maxRecDepth 65536 in
set_option maxHeartbeats 4000000 in
/-- The operations before the loop leave the first state, and the count at zero. -/
theorem entry : stateOf (entryContents preI m c) = states m c 0 ∧
    entryContents preI m c (Proc.devRef .tc main_v69_4) = constantI S_ 32 (BitVec.ofNat 32 0) := by
  refine ⟨state_ext _ _ ?_ ?_ ?_ ?_ ?_ ?_, ?_⟩ <;>
    (simp only [stateOf, entryContents, afterL_cons, afterL_nil]; after_reads_simp) <;> rfl

/-- Before each trip the carried buffers hold that trip's state and number. -/
theorem holds : ∀ k, stateOf (STEP^[k] (entryContents preI m c)) = states m c k ∧
    (STEP^[k] (entryContents preI m c)) (Proc.devRef .tc main_v69_4) = constantI S_ 32 (BitVec.ofNat 32 k)
  | 0 => entry m c
  | k + 1 => by
    rw [Function.iterate_succ_apply']
    exact ⟨(next_state _ k (holds k).2).trans (congrArg (step k) (holds k).1), (STEP_main_v69_4 _).trans (next_count _ k (holds k).2)⟩

set_option maxRecDepth 65536 in
/-- The operations after the loop are a function of the carried buffers' state and of the arguments. -/
theorem after_loop (V : Valuation τ sig (Elt Ideal)) : out_main_v108 V = R_main_v108 (stateOf V) (V (Proc.devRef .tc main_arg0))
    (V (Proc.devRef .tc main_arg1)) (V (Proc.devRef .tc main_arg4)) (V (Proc.devRef .tc main_arg5)) (V (Proc.devRef .tc main_arg8))
    (V (Proc.devRef .tc main_arg9)) := by
  unfold out_main_v108 R_main_v108
  rfl

/-- The run's result is that function of the last state. -/
theorem result_eq : out_main_v108 (STEP^[2048] (entryContents preI m c)) =
    R_main_v108 (states m c 2048) (m ((c.tc : Thread nD τ).loc main_arg0)) (m ((c.tc : Thread nD τ).loc main_arg1))
      (m ((c.tc : Thread nD τ).loc main_arg4)) (m ((c.tc : Thread nD τ).loc main_arg5)) (m ((c.tc : Thread nD τ).loc main_arg8))
      (m ((c.tc : Thread nD τ).loc main_arg9)) := by
  refine (after_loop _).trans ?_
  rw [(holds m c 2048).1, iter_main_arg0 m c 2048, iter_main_arg1 m c 2048, iter_main_arg4 m c 2048, iter_main_arg5 m c 2048,
    iter_main_arg8 m c 2048, iter_main_arg9 m c 2048]

end Cert.MemReferenceIdeal.Mem

end
-- ==== Proof.MemSteps.lean ====
module

public import Idealize.ShloMosaic.Lib.WordCmp
public import proofs.«01_k».proof.Proof.MemReference
public import proofs.«01_k».proof.Proof.MemLoop

/-! The reference's loop, entry by entry: after `n` steps the carried memory is the recurrence's, and the reads of the steps before are in
    place; so the reference's result. -/

@[expose] public section

set_option maxRecDepth 16384

noncomputable section

open Idealize.ShloMosaic Idealize.ShloMosaic.TcCoe Idealize.SL.Sem

namespace Cert.MemReferenceIdeal.Mem

open Cert.MemReferenceIdeal Cert.MemReferenceIdeal.Gen Cert.MemReferenceIdeal.Step Cert.Hebb

/-- A step's number, read as a start, is the number. -/
theorem start_val {j : ℕ} (hj : j < 2048) : (BitVec.ofNat 32 j).toInt = (j : Int) :=
  WordCmp.toInt_ofNat_of_lt (by omega)

/-- The slice of step `j` of an array of queries, keys or values. -/
theorem slice_at (x : FVec Ideal S2048x4x8x64 .f32) (start : Fin 4 → Int) {j : ℕ} (hj : j < 2048)
    (e : ∀ a, start a = ((![j, 0, 0, 0] : Fin 4 → ℕ) a : Int)) (a : Fin 4) (h : Fin 8) (d : Fin 64) :
    shapeCast S4x8x64 (Host.dynamicSlice S1x4x8x64 x start sliceFits_S2048x4x8x64_S1x4x8x64) shapeCasts_S1x4x8x64_S4x8x64 (ix3 a h d) =
      x (ix4 ⟨j, hj⟩ a h d) := by
  rw [WordCmp.dynamicSlice_eq_extract S1x4x8x64 x start sliceFits_S2048x4x8x64_S1x4x8x64 ![j, 0, 0, 0] ⟨rfl, fun a => by
    match a with
    | ⟨0, _⟩ => exact hj
    | ⟨1, _⟩ => exact le_refl 4
    | ⟨2, _⟩ => exact le_refl 8
    | ⟨3, _⟩ => exact le_refl 64⟩ e]
  pointwise []

/-- The slice of step `j` of the decays. -/
theorem slice_row (x : FVec Ideal S2048x4 .f32) (start : Fin 2 → Int) {j : ℕ} (hj : j < 2048)
    (e : ∀ a, start a = ((![j, 0] : Fin 2 → ℕ) a : Int)) (a : Fin 4) :
    shapeCast S4 (Host.dynamicSlice S1x4 x start sliceFits_S2048x4_S1x4) shapeCasts_S1x4_S4 (ix1 a) = x (ix2 ⟨j, hj⟩ a) := by
  rw [WordCmp.dynamicSlice_eq_extract S1x4 x start sliceFits_S2048x4_S1x4 ![j, 0] ⟨rfl, fun a => by
    match a with
    | ⟨0, _⟩ => exact hj
    | ⟨1, _⟩ => exact le_refl 4⟩ e]
  pointwise []

/-- A step's start in the four axes. -/
theorem start_eq {j : ℕ} (hj : j < 2048) (z1 z2 z3 : IVec S_ 32) (h1 : z1 = constantI S_ 32 0#32) (h2 : z2 = constantI S_ 32 0#32)
    (h3 : z3 = constantI S_ 32 0#32) (a : Fin 4) :
    ((![constantI S_ 32 (BitVec.ofNat 32 j), z1, z2, z3] : Fin 4 → IVec S_ 32) a (Shape.Idx.first h_S_)).toInt =
      ((![j, 0, 0, 0] : Fin 4 → ℕ) a : Int) := by
  subst h1 h2 h3
  match a with
  | ⟨0, _⟩ => exact start_val hj
  | ⟨1, _⟩ => rfl
  | ⟨2, _⟩ => rfl
  | ⟨3, _⟩ => rfl

/-- The update of step `j` of the array of reads: the step's row, the others as they were. -/
theorem update_at (x : FVec Ideal S2048x4x8x64 .f32) (u : FVec Ideal S1x4x8x64 .f32) (start : Fin 4 → Int) {j : ℕ} (hj : j < 2048)
    (e : ∀ a, start a = ((![j, 0, 0, 0] : Fin 4 → ℕ) a : Int)) (n : Fin 2048) (a : Fin 4) (h : Fin 8) (d : Fin 64) :
    Host.dynamicUpdateSlice x u start updateFits_S2048x4x8x64_S1x4x8x64 (ix4 n a h d) =
      if n.val = j then u (ix4 0 a h d) else x (ix4 n a h d) := by
  rw [WordCmp.dynamicUpdateSlice_eq_update x u start updateFits_S2048x4x8x64_S1x4x8x64 ![j, 0, 0, 0] ⟨rfl, fun a => by
    match a with
    | ⟨0, _⟩ => exact hj
    | ⟨1, _⟩ => exact le_refl 4
    | ⟨2, _⟩ => exact le_refl 8
    | ⟨3, _⟩ => exact le_refl 64⟩ e]
  pointwise []
  by_cases hn : n.val = j
  · rw [dif_pos ⟨hn.ge, by omega⟩, if_pos hn]
    exact congrArg (fun i : Fin 1 => u (ix4 i a h d)) (Subsingleton.elim _ _)
  · rw [dif_neg (by omega), if_neg hn]

section
variable (s : State Ideal) {j : ℕ} (hj : j < 2048)

/-- One step of the memory. -/
theorem memory_step (a : Fin 4) (h : Fin 8) (d e : Fin 64) : b34 j s (ix4 a h d e) =
    Ideal.exp (-s.main_v69_3 (ix2 ⟨j, hj⟩ a) * DT) * s.main_v69_5 (ix4 a h d e) +
      ETA * (s.main_v69_1 (ix4 ⟨j, hj⟩ a h d) * s.main_v69_2 (ix4 ⟨j, hj⟩ a h e)) := by
  have hk (d : Fin 64) : b9 j s (ix3 a h d) = s.main_v69_1 (ix4 ⟨j, hj⟩ a h d) :=
    slice_at _ _ hj (start_eq hj (b5 j s) (b6 j s) (b7 j s) rfl rfl rfl) a h d
  have hv (d : Fin 64) : b14 j s (ix3 a h d) = s.main_v69_2 (ix4 ⟨j, hj⟩ a h d) :=
    slice_at _ _ hj (start_eq hj (b10 j s) (b11 j s) (b12 j s) rfl rfl rfl) a h d
  have hg : b17 j s (ix1 a) = s.main_v69_3 (ix2 ⟨j, hj⟩ a) :=
    slice_row _ _ hj (fun b => by
      match b with
      | ⟨0, _⟩ => exact start_val hj
      | ⟨1, _⟩ => rfl) a
  pointwise [b34, b33, b32, b31, b30, b29, b28, b27, b26, b25, b24, b23, b22, b21, b20, b19, b18, hk, hv, hg]

/-- What a step reads, in the array of reads. -/
theorem reads_step (n : Fin 2048) (a : Fin 4) (h : Fin 8) (e : Fin 64) : b40 j s (ix4 n a h e) =
    if n.val = j then ∑ d, s.main_v69_0 (ix4 ⟨j, hj⟩ a h d) * b34 j s (ix4 a h d e) else s.main_v69_6 (ix4 n a h e) := by
  have hq (d : Fin 64) : b4 j s (ix3 a h d) = s.main_v69_0 (ix4 ⟨j, hj⟩ a h d) :=
    slice_at _ _ hj (start_eq hj (b0 j s) (b1 j s) (b2 j s) rfl rfl rfl) a h d
  have hr : b36 j s (ix4 0 a h e) = ∑ d, s.main_v69_0 (ix4 ⟨j, hj⟩ a h d) * b34 j s (ix4 a h d e) := by
    pointwise [b36, b35, hq]
  rw [← hr]
  exact update_at _ _ _ hj (start_eq hj (b37 j s) (b38 j s) (b39 j s) rfl rfl rfl) n a h e

/-- The arguments' entries. -/
def args (x : FVec Ideal S4x2048x1024 .f32) (sc : FVec Ideal S4x2048x8 .f32) (g b : FVec Ideal S1024 .f32) (w : FVec Ideal S2x1024 .f32)
    (wb : FVec Ideal S1024 .f32) (wq : FVec Ideal S1024x1536 .f32) (bq : FVec Ideal S1536 .f32) (wo : FVec Ideal S512x1024 .f32)
    (bo : FVec Ideal S1024 .f32) : Args where
  x a n d := x (ix3 a n d)
  s a n k := sc (ix3 a n k)
  g k := g (ix1 k)
  b k := b (ix1 k)
  w i d := w (ix2 i d)
  wb d := wb (ix1 d)
  wq k c := wq (ix2 k c)
  bq c := bq (ix1 c)
  wo f d := wo (ix2 f d)
  bo d := bo (ix1 d)

end

variable (m : (ℓ : Loc nD τ sig) → Buf (Elt Ideal) ℓ) (c : Dev nD)

/-- An argument a run starts from. -/
abbrev arg (r : Ref sig .tc) : Buf (Elt Ideal) ((c.tc : Thread nD τ).loc r) := m ((c.tc : Thread nD τ).loc r)

/-- The entries of the arguments a run starts from. -/
def argsAt : Args :=
  args (arg m c main_arg0) (arg m c main_arg1) (arg m c main_arg2)
    (arg m c main_arg3) (arg m c main_arg4) (arg m c main_arg5)
    (arg m c main_arg6) (arg m c main_arg7) (arg m c main_arg8)
    (arg m c main_arg9)

/-- The queries, keys, values and decays stay as they were before the loop. -/
theorem kept : ∀ n, (states m c n).main_v69_0 = (states m c 0).main_v69_0 ∧ (states m c n).main_v69_1 = (states m c 0).main_v69_1 ∧
    (states m c n).main_v69_2 = (states m c 0).main_v69_2 ∧ (states m c n).main_v69_3 = (states m c 0).main_v69_3
  | 0 => ⟨rfl, rfl, rfl, rfl⟩
  | n + 1 => kept n

/-- A row's queries, keys and values are the recurrence's. -/
theorem columns_at (a : Fin 4) (n : Fin 2048) (k : Fin 1536) :
    A_main_v53 (arg m c main_arg0) (arg m c main_arg1) (arg m c main_arg2)
      (arg m c main_arg3) (arg m c main_arg4) (arg m c main_arg5)
      (arg m c main_arg6) (arg m c main_arg7) (ix3 a n k) = (argsAt m c).qkv a n k := by
  rw [qkv_at]
  simp only [input_at]
  rfl

/-- The queries at every state. -/
theorem query (n : ℕ) (r : Fin 2048) (a : Fin 4) (h : Fin 8) (d : Fin 64) :
    (states m c n).main_v69_0 (ix4 r a h d) = (argsAt m c).part 0 a h r.val d := by
  rw [(kept m c n).1]
  refine (q_at (arg m c main_arg0) (arg m c main_arg1) (arg m c main_arg2) (arg m c main_arg3)
    (arg m c main_arg4) (arg m c main_arg5) (arg m c main_arg6) (arg m c main_arg7) a r h d).trans ((columns_at m c a r _).trans ?_)
  unfold Args.part
  rw [row_val]

/-- The keys at every state. -/
theorem key (n : ℕ) (r : Fin 2048) (a : Fin 4) (h : Fin 8) (d : Fin 64) :
    (states m c n).main_v69_1 (ix4 r a h d) = (argsAt m c).part 1 a h r.val d := by
  rw [(kept m c n).2.1]
  refine (k_at (arg m c main_arg0) (arg m c main_arg1) (arg m c main_arg2) (arg m c main_arg3)
    (arg m c main_arg4) (arg m c main_arg5) (arg m c main_arg6) (arg m c main_arg7) a r h d).trans ((columns_at m c a r _).trans ?_)
  unfold Args.part
  rw [row_val]

/-- The values at every state. -/
theorem value (n : ℕ) (r : Fin 2048) (a : Fin 4) (h : Fin 8) (d : Fin 64) :
    (states m c n).main_v69_2 (ix4 r a h d) = (argsAt m c).part 2 a h r.val d := by
  rw [(kept m c n).2.2.1]
  refine (v_at (arg m c main_arg0) (arg m c main_arg1) (arg m c main_arg2) (arg m c main_arg3)
    (arg m c main_arg4) (arg m c main_arg5) (arg m c main_arg6) (arg m c main_arg7) a r h d).trans ((columns_at m c a r _).trans ?_)
  unfold Args.part
  rw [row_val]

/-- The decays at every state. -/
theorem decay (n : ℕ) (r : Fin 2048) (a : Fin 4) : (states m c n).main_v69_3 (ix2 r a) = (argsAt m c).gam a r.val := by
  rw [(kept m c n).2.2.2]
  refine (gamma_at (arg m c main_arg0) (arg m c main_arg1) (arg m c main_arg2) (arg m c main_arg3)
    (arg m c main_arg4) (arg m c main_arg5) (arg m c main_arg6) (arg m c main_arg7) a r).trans ?_
  unfold Args.gam
  rw [row_val]
  rfl

/-- The memory starts empty. -/
theorem empty_at (a : Fin 4) (h : Fin 8) (d e : Fin 64) : K_main_v67 (F := Ideal) (ix4 a h d e) = 0 := by
  pointwise [K_main_v67, K_main_cst_3]

/-- After `n` steps the carried memory is the recurrence's. -/
theorem memory_at (n : ℕ) (hn : n ≤ 2048) (a : Fin 4) (h : Fin 8) (d e : Fin 64) :
    (states m c n).main_v69_5 (ix4 a h d e) = (argsAt m c).mem a h n d e := by
  induction n with
  | zero => exact empty_at a h d e
  | succ n ih =>
    refine (congrFun (step_main_v69_5 n (states m c n)) _).trans ((memory_step _ hn a h d e).trans ?_)
    rw [decay, key, value, ih (Nat.le_of_succ_le hn)]
    rfl

/-- After `n` steps the reads of the steps before are in place. -/
theorem reads_at (n : ℕ) (hn : n ≤ 2048) (r : Fin 2048) (hr : r.val < n) (a : Fin 4) (h : Fin 8) (e : Fin 64) :
    (states m c n).main_v69_6 (ix4 r a h e) = (argsAt m c).read a h r.val e := by
  induction n with
  | zero => exact absurd hr (Nat.not_lt_zero _)
  | succ n ih =>
    refine (congrFun (step_main_v69_6 n (states m c n)) _).trans ((reads_step _ hn r a h e).trans ?_)
    by_cases h0 : r.val = n
    · rw [if_pos h0]
      unfold Args.read
      refine Finset.sum_congr rfl fun d _ => ?_
      rw [query, ← congrFun (step_main_v69_5 n (states m c n)) _, h0]
      exact congrArg _ (memory_at m c (n + 1) hn a h d e)
    · rw [if_neg h0]
      exact ih (Nat.le_of_succ_le hn) (by omega)

/-- The array the reference returns, from its arguments' entries. -/
def out (A : Args) : FVec Ideal S4x2048x1024 .f32 := fun j => A.result (j 0) (j 1) (j 2)

/-- The reads as rows of 512 columns. -/
def heads (s : State Ideal) : FVec Ideal S4x2048x512 .f32 :=
  shapeCast S4x2048x512 (transpose S4x2048x8x64 [1, 0, 2, 3] s.main_v69_6 transposes_S2048x4x8x64_S4x2048x8x64_1_0_2_3)
    shapeCasts_S4x2048x8x64_S4x2048x512

/-- Column `f` of the reads is entry `f % 64` of head `f / 64`. -/
theorem heads_at (r : Fin 2048) (a : Fin 4) (f : Fin 512) :
    heads (states m c 2048) (ix3 a r f) = (argsAt m c).read a ⟨f.val / 64, by omega⟩ r.val ⟨f.val % 64, by omega⟩ := by
  rw [← reads_at m c 2048 (le_refl _) r r.isLt]
  pointwise [heads]

/-- The result is the entering row, the product of the heads' reads, and the bias. -/
theorem assembled (s : State Ideal) (x : FVec Ideal S4x2048x1024 .f32) (sc : FVec Ideal S4x2048x8 .f32) (g b : FVec Ideal S1024 .f32)
    (w : FVec Ideal S2x1024 .f32) (wb : FVec Ideal S1024 .f32) (wq : FVec Ideal S1024x1536 .f32) (bq : FVec Ideal S1536 .f32)
    (wo : FVec Ideal S512x1024 .f32) (bo : FVec Ideal S1024 .f32) (a : Fin 4) (n : Fin 2048) (d : Fin 1024) :
    R_main_v108 s x sc w wb wo bo (ix3 a n d) =
      A_main_v31 (F := Ideal) x sc g b w wb wq bq (ix3 a n d) +
        (∑ f : Fin 512, heads s (ix3 a n f) * wo (ix2 f d)) + bo (ix1 d) := by
  have e : R_main_v108 s x sc w wb wo bo = addf (addf (A_main_v31 (F := Ideal) x sc g b w wb wq bq)
      (Host.dotGeneral dot_S4x2048x512_S512x1024_S4x2048x1024_2_0_01_1_n_n none
        (heads s) wo))
      (broadcastInDim S4x2048x1024 ![0, 1, 2] bcast_S1x1x1024_S4x2048x1024_0_1_2 (broadcastInDim S1x1x1024 ![2] bcast_S1024_S1x1x1024_2 bo)) := by
    unfold R_main_v108
    rfl
  rw [e]
  generalize A_main_v31 (F := Ideal) x sc g b w wb wq bq = X
  generalize heads s = Y
  pointwise []

/-- The row that enters the memory is the recurrence's. -/
theorem entering_at (a : Fin 4) (n : Fin 2048) (d : Fin 1024) :
    A_main_v31 (arg m c main_arg0) (arg m c main_arg1) (arg m c main_arg2) (arg m c main_arg3) (arg m c main_arg4) (arg m c main_arg5)
      (arg m c main_arg6) (arg m c main_arg7) (ix3 a n d) = (argsAt m c).inp a n d := by
  rw [input_at]
  rfl

/-- The reference's result at an entry. -/
theorem returned_at (a : Fin 4) (n : Fin 2048) (d : Fin 1024) :
    R_main_v108 (states m c 2048) (arg m c main_arg0) (arg m c main_arg1) (arg m c main_arg4) (arg m c main_arg5) (arg m c main_arg8)
      (arg m c main_arg9) (ix3 a n d) = (argsAt m c).result a n d := by
  rw [assembled _ _ _ (arg m c main_arg2) (arg m c main_arg3) _ _ (arg m c main_arg6) (arg m c main_arg7), entering_at, add_assoc]
  unfold Args.result
  refine congrArg₂ (· + ·) rfl (congrArg₂ (· + ·) (Finset.sum_congr rfl fun f _ => ?_) rfl)
  exact congrArg (fun z => z * arg m c main_arg8 (ix2 f d)) (heads_at m c n a f)

/-- The reference's result is `out` of its arguments. -/
theorem returned : R_main_v108 (states m c 2048) (arg m c main_arg0) (arg m c main_arg1) (arg m c main_arg4) (arg m c main_arg5)
    (arg m c main_arg8) (arg m c main_arg9) = out (argsAt m c) := by
  funext j
  idx_vars j
  exact returned_at m c j0 j1 j2

end Cert.MemReferenceIdeal.Mem

end
-- ==== Proof.lean ====
module

public import proofs.«01_k».proof.Defs
public import proofs.«01_k».proof.Proof.Gen.Kernel.Frame
public import proofs.«01_k».proof.Proof.Gen.KernelIdeal.Frame
public import proofs.«01_k».proof.Proof.FfnArray
public import proofs.«01_k».proof.Proof.Gen.PotKernel.Frame
public import proofs.«01_k».proof.Proof.Gen.PotKernelIdeal.Frame
public import proofs.«01_k».proof.Proof.PotArray
public import proofs.«01_k».proof.Proof.Gen.MemKernel.Frame
public import proofs.«01_k».proof.Proof.Gen.MemKernelIdeal.Frame
public import proofs.«01_k».proof.Proof.Gen.Pre_mem_finite
public import proofs.«01_k».proof.Proof.MemResult
public import proofs.«01_k».proof.Proof.MemFinite
public import proofs.«01_k».proof.Proof.MemSteps
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference leaves its arguments and its semaphores, of which it has none, as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference of the potential call leaves its arguments as they were. -/
theorem frame_pot_reference : Cert.quiescent_PotReferenceIdeal := fun m ρ _ =>
  (θ_run Cert.PotReferenceIdeal.defs _ _).mono (fun r h => ⟨fun c => (h c).2, sem_eq_zero_of_no_sems (by decide) r.2⟩)
    (Cert.PotReferenceIdeal.Value.run m ρ)

/-- The feed-forward call's array and the reference's array are one function of the arguments. -/
theorem ffn : Cert.algebraic_KernelIdeal_ReferenceIdeal := by
  pair_intro
  · run_from Cert.KernelIdeal.Value.run_blocks m g
  · run_from Cert.ReferenceIdeal.Value.run m' g'
    rw [Cert.ReferenceIdeal.Read.val_main_v40_eq, Cert.ReferenceIdeal.Ffn.result_eq]
    obtain ⟨h0, h1, h2, h3, h4, h5, h6⟩ := hagree c
    rw [h0, h1, h2, h3, h4, h5, h6]
    exact (Cert.KernelIdeal.Ffn.final m c).symm

/-- The potential call's array and its reference's array are one function of the arguments. -/
theorem potential : Cert.algebraic_PotKernelIdeal_PotReferenceIdeal := by
  pair_intro
  · run_from Cert.PotKernelIdeal.Value.run_blocks m g
  · run_from Cert.PotReferenceIdeal.Value.run m' g'
    rw [Cert.PotReferenceIdeal.Read.val_main_v32_eq, Cert.PotReferenceIdeal.Pot.result_eq]
    obtain ⟨h0, h1, h2, h3, h4⟩ := hagree c
    rw [h0, h1, h2, h3, h4]
    exact (Cert.PotKernelIdeal.Pot.final m c).symm

/-- The reference of the memory call leaves its arguments as they were. -/
theorem frame_mem_reference : Cert.quiescent_MemReferenceIdeal := fun m ρ _ =>
  (θ_run Cert.MemReferenceIdeal.defs _ _).mono (fun r h => ⟨fun c => (h c).2, sem_eq_zero_of_no_sems (by decide) r.2⟩)
    (Cert.MemReferenceIdeal.Value.run m ρ)

/-- Agreeing arguments have the same entries. -/
theorem args_agree (m : (ℓ : Loc Cert.MemKernelIdeal.nD Cert.MemKernelIdeal.τ Cert.MemKernelIdeal.sig) → Buf (Elt Ideal) ℓ)
    (m' : (ℓ : Loc Cert.MemReferenceIdeal.nD Cert.MemReferenceIdeal.τ Cert.MemReferenceIdeal.sig) → Buf (Elt Ideal) ℓ)
    (c : Dev Cert.MemKernelIdeal.nD)
    (h0 : Cert.MemReferenceIdeal.Mem.arg m' c Cert.MemReferenceIdeal.main_arg0 = Cert.MemKernelIdeal.Mem.arg m c Cert.MemKernelIdeal.main_arg0)
    (h1 : Cert.MemReferenceIdeal.Mem.arg m' c Cert.MemReferenceIdeal.main_arg1 = Cert.MemKernelIdeal.Mem.arg m c Cert.MemKernelIdeal.main_arg1)
    (h2 : Cert.MemReferenceIdeal.Mem.arg m' c Cert.MemReferenceIdeal.main_arg2 = Cert.MemKernelIdeal.Mem.arg m c Cert.MemKernelIdeal.main_arg2)
    (h3 : Cert.MemReferenceIdeal.Mem.arg m' c Cert.MemReferenceIdeal.main_arg3 = Cert.MemKernelIdeal.Mem.arg m c Cert.MemKernelIdeal.main_arg3)
    (h4 : Cert.MemReferenceIdeal.Mem.arg m' c Cert.MemReferenceIdeal.main_arg4 = Cert.MemKernelIdeal.Mem.arg m c Cert.MemKernelIdeal.main_arg4)
    (h5 : Cert.MemReferenceIdeal.Mem.arg m' c Cert.MemReferenceIdeal.main_arg5 = Cert.MemKernelIdeal.Mem.arg m c Cert.MemKernelIdeal.main_arg5)
    (h6 : Cert.MemReferenceIdeal.Mem.arg m' c Cert.MemReferenceIdeal.main_arg6 = Cert.MemKernelIdeal.Mem.arg m c Cert.MemKernelIdeal.main_arg6)
    (h7 : Cert.MemReferenceIdeal.Mem.arg m' c Cert.MemReferenceIdeal.main_arg7 = Cert.MemKernelIdeal.Mem.arg m c Cert.MemKernelIdeal.main_arg7)
    (h8 : Cert.MemReferenceIdeal.Mem.arg m' c Cert.MemReferenceIdeal.main_arg8 = Cert.MemKernelIdeal.Mem.arg m c Cert.MemKernelIdeal.main_arg8)
    (h9 : Cert.MemReferenceIdeal.Mem.arg m' c Cert.MemReferenceIdeal.main_arg9 = Cert.MemKernelIdeal.Mem.arg m c Cert.MemKernelIdeal.main_arg9) :
    Cert.MemReferenceIdeal.Mem.argsAt m' c = Cert.MemKernelIdeal.Mem.argsAt m c := by
  unfold Cert.MemReferenceIdeal.Mem.argsAt Cert.MemReferenceIdeal.Mem.args
  rw [h0, h1, h2, h3, h4, h5, h6, h7, h8, h9]
  rfl

/-- The memory call's array and its reference's array are one function of the arguments, wherever the recurrence's are finite. -/
theorem memory : Cert.algebraic_MemKernelIdeal_MemReferenceIdeal_pre_mem_finite := by
  pair_intro
  · run_from Cert.MemKernelIdeal.Value.run_blocks m g
  · refine (θ_run Cert.MemReferenceIdeal.defs _ _).mono (fun r h c => ⟨(h c).1.trans ?_, (h c).2⟩)
      (Cert.MemReferenceIdeal.Value.run m' g')
    rw [Cert.MemReferenceIdeal.Mem.result_eq, Cert.MemReferenceIdeal.Mem.returned]
    obtain ⟨h0, h1, h2, h3, h4, h5, h6, h7, h8, h9⟩ := hagree c
    rw [args_agree m m' c h0 h1 h2 h3 h4 h5 h6 h7 h8 h9]
    exact (Cert.MemKernelIdeal.Mem.final m c (Cert.MemKernelIdeal.Mem.entries m c hpre).finite).symm

/-- All the claims. -/
theorem claim : Cert.Claim := ⟨Cert.Kernel.Gen.facts, Cert.KernelIdeal.Gen.facts, Cert.ReferenceIdeal.Gen.facts,
  Cert.PotKernel.Gen.facts, Cert.PotKernelIdeal.Gen.facts, Cert.PotReferenceIdeal.Gen.facts,
  Cert.MemKernel.Gen.facts, Cert.MemKernelIdeal.Gen.facts, Cert.MemReferenceIdeal.Gen.facts, Cert.Pre_mem_finite.Gen.facts,
  fun m ρ _ => Cert.Kernel.Gen.frame m ρ, fun m ρ _ => Cert.KernelIdeal.Gen.frame m ρ, frame_reference,
  fun m ρ _ => Cert.PotKernel.Gen.frame m ρ, fun m ρ _ => Cert.PotKernelIdeal.Gen.frame m ρ, frame_pot_reference,
  fun m ρ _ => Cert.MemKernel.Gen.frame m ρ, fun m ρ _ => Cert.MemKernelIdeal.Gen.frame m ρ,
  fun m ρ _ => Cert.MemKernelIdeal.Gen.frame m ρ, frame_mem_reference, fun m ρ _ => frame_mem_reference m ρ trivial,
  trivial, ffn, trivial, potential, trivial, memory⟩

end Cert.Proof

end
